-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S3x1024x2048 : Shape := ⟨3, ![3, 1024, 2048]⟩
abbrev S3x2048x1024 : Shape := ⟨3, ![3, 2048, 1024]⟩
abbrev S2x2x64x512 : Shape := ⟨4, ![2, 2, 64, 512]⟩
abbrev S12x2x64x512 : Shape := ⟨4, ![12, 2, 64, 512]⟩
abbrev S3 : Shape := ⟨1, ![3]⟩
abbrev S12x2 : Shape := ⟨2, ![12, 2]⟩
abbrev S1 : Shape := ⟨1, ![1]⟩
abbrev S_ : Shape := ⟨0, ![]⟩
abbrev S1x1024x2048 : Shape := ⟨3, ![1, 1024, 2048]⟩
abbrev S1x2048x1024 : Shape := ⟨3, ![1, 2048, 1024]⟩
abbrev S64x2048 : Shape := ⟨2, ![64, 2048]⟩
abbrev S2048x512 : Shape := ⟨2, ![2048, 512]⟩
abbrev S64x512 : Shape := ⟨2, ![64, 512]⟩
abbrev S1x1x64x512 : Shape := ⟨4, ![1, 1, 64, 512]⟩
abbrev S1x1 : Shape := ⟨2, ![1, 1]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S3x1024x2048, .f32⟩
  | .local _ .vmem, ⟨3, _⟩ => ⟨S3x2048x1024, .f32⟩
  | .local _ .vmem, ⟨4, _⟩ => ⟨S64x1024, .f32⟩
  | .local _ .vmem, ⟨5, _⟩ => ⟨S2x2x64x512, .f32⟩
  | .local _ .vmem, ⟨6, _⟩ => ⟨S2x2x64x512, .bf16⟩
  | .local _ .vmem, ⟨7, _⟩ => ⟨S12x2x64x512, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_22 : BitVec 32 := 1#32
  let v28 : BitVec 32 := Scalar.xori v2 c1_i32_22
  let c1_i32_24 : BitVec 32 := 1#32
  let v29 : BitVec 32 := Scalar.muli v28 c1_i32_24
  let v30 : BitVec 32 := Scalar.addi c0_i32_25 v29
  v30.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_26 : BitVec 32 := 2#32
  let c3_i32 : BitVec 32 := 3#32
  let v31 : BitVec 32 := Scalar.andi v2 c3_i32
  let v32 : BitVec 32 := Scalar.muli c2_i32_26 v31
  let v33 : BitVec 32 := Scalar.subi v2 v32
  let c3_i32_27 : BitVec 32 := 3#32
  let v34 : BitVec 32 := Scalar.addi v33 c3_i32_27
  let c1_i32_29 : BitVec 32 := 1#32
  let v35 : BitVec 32 := Scalar.muli v34 c1_i32_29
  let v36 : BitVec 32 := Scalar.addi c0_i32_30 v35
  v36.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v37 : BitVec 32 := Scalar.xori v2 c4_i32
  let c1_i32_32 : BitVec 32 := 1#32
  let v38 : BitVec 32 := Scalar.muli v37 c1_i32_32
  let v39 : BitVec 32 := Scalar.addi c0_i32_33 v38
  v39.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v40 : BitVec 32 := Scalar.xori v2 c8_i32
  let c1_i32_35 : BitVec 32 := 1#32
  let v41 : BitVec 32 := Scalar.muli v40 c1_i32_35
  let v42 : BitVec 32 := Scalar.addi c0_i32_36 v41
  v42.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_63 : BitVec 32 := 1#32
  let v69 : BitVec 32 := Scalar.xori v2 c1_i32_63
  let c1_i32_72 : BitVec 32 := 1#32
  let v70 : BitVec 32 := Scalar.muli v69 c1_i32_72
  let v71 : BitVec 32 := Scalar.addi c0_i32_73 v70
  v71.toNat
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_89 : BitVec 32 := 1#32
  let v91 : BitVec 32 := Scalar.xori v2 c1_i32_89
  let c1_i32_98 : BitVec 32 := 1#32
  let v92 : BitVec 32 := Scalar.muli v91 c1_i32_98
  let v93 : BitVec 32 := Scalar.addi c0_i32_99 v92
  v93.toNat
def k0_dev7 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_135 : BitVec 32 := 2#32
  let c3_i32_134 : BitVec 32 := 3#32
  let v123 : BitVec 32 := Scalar.andi v2 c3_i32_134
  let v124 : BitVec 32 := Scalar.muli c2_i32_135 v123
  let v125 : BitVec 32 := Scalar.subi v2 v124
  let c3_i32_136 : BitVec 32 := 3#32
  let v126 : BitVec 32 := Scalar.addi v125 c3_i32_136
  let c1_i32_145 : BitVec 32 := 1#32
  let v127 : BitVec 32 := Scalar.muli v126 c1_i32_145
  let v128 : BitVec 32 := Scalar.addi c0_i32_146 v127
  v128.toNat
def k0_dev8 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_195 : BitVec 32 := 2#32
  let c3_i32_194 : BitVec 32 := 3#32
  let v164 : BitVec 32 := Scalar.andi v2 c3_i32_194
  let v165 : BitVec 32 := Scalar.muli c2_i32_195 v164
  let v166 : BitVec 32 := Scalar.subi v2 v165
  let c3_i32_196 : BitVec 32 := 3#32
  let v167 : BitVec 32 := Scalar.addi v166 c3_i32_196
  let c1_i32_205 : BitVec 32 := 1#32
  let v168 : BitVec 32 := Scalar.muli v167 c1_i32_205
  let v169 : BitVec 32 := Scalar.addi c0_i32_206 v168
  v169.toNat
def k0_dev9 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_254 : BitVec 32 := 4#32
  let v205 : BitVec 32 := Scalar.xori v2 c4_i32_254
  let c1_i32_263 : BitVec 32 := 1#32
  let v206 : BitVec 32 := Scalar.muli v205 c1_i32_263
  let v207 : BitVec 32 := Scalar.addi c0_i32_264 v206
  v207.toNat
def k0_dev10 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_312 : BitVec 32 := 4#32
  let v243 : BitVec 32 := Scalar.xori v2 c4_i32_312
  let c1_i32_321 : BitVec 32 := 1#32
  let v244 : BitVec 32 := Scalar.muli v243 c1_i32_321
  let v245 : BitVec 32 := Scalar.addi c0_i32_322 v244
  v245.toNat
def k0_dev11 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_369 : BitVec 32 := 8#32
  let v281 : BitVec 32 := Scalar.xori v2 c8_i32_369
  let c1_i32_378 : BitVec 32 := 1#32
  let v282 : BitVec 32 := Scalar.muli v281 c1_i32_378
  let v283 : BitVec 32 := Scalar.addi c0_i32_379 v282
  v283.toNat
def k0_dev12 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_427 : BitVec 32 := 8#32
  let v319 : BitVec 32 := Scalar.xori v2 c8_i32_427
  let c1_i32_436 : BitVec 32 := 1#32
  let v320 : BitVec 32 := Scalar.muli v319 c1_i32_436
  let v321 : BitVec 32 := Scalar.addi c0_i32_437 v320
  v321.toNat
def k0_dev13 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_554 : BitVec 32 := 1#32
  let v407 : BitVec 32 := Scalar.xori v2 c1_i32_554
  let c1_i32_563 : BitVec 32 := 1#32
  let v408 : BitVec 32 := Scalar.muli v407 c1_i32_563
  let v409 : BitVec 32 := Scalar.addi c0_i32_564 v408
  v409.toNat
def k0_dev14 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_581 : BitVec 32 := 1#32
  let v429 : BitVec 32 := Scalar.xori v2 c1_i32_581
  let c1_i32_590 : BitVec 32 := 1#32
  let v430 : BitVec 32 := Scalar.muli v429 c1_i32_590
  let v431 : BitVec 32 := Scalar.addi c0_i32_591 v430
  v431.toNat
def k0_dev15 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_626 : BitVec 32 := 2#32
  let c3_i32_625 : BitVec 32 := 3#32
  let v461 : BitVec 32 := Scalar.andi v2 c3_i32_625
  let v462 : BitVec 32 := Scalar.muli c2_i32_626 v461
  let v463 : BitVec 32 := Scalar.subi v2 v462
  let c3_i32_627 : BitVec 32 := 3#32
  let v464 : BitVec 32 := Scalar.addi v463 c3_i32_627
  let c1_i32_635 : BitVec 32 := 1#32
  let v465 : BitVec 32 := Scalar.muli v464 c1_i32_635
  let v466 : BitVec 32 := Scalar.addi c0_i32_636 v465
  v466.toNat
def k0_dev16 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_685 : BitVec 32 := 2#32
  let c3_i32_684 : BitVec 32 := 3#32
  let v502 : BitVec 32 := Scalar.andi v2 c3_i32_684
  let v503 : BitVec 32 := Scalar.muli c2_i32_685 v502
  let v504 : BitVec 32 := Scalar.subi v2 v503
  let c3_i32_686 : BitVec 32 := 3#32
  let v505 : BitVec 32 := Scalar.addi v504 c3_i32_686
  let c1_i32_695 : BitVec 32 := 1#32
  let v506 : BitVec 32 := Scalar.muli v505 c1_i32_695
  let v507 : BitVec 32 := Scalar.addi c0_i32_696 v506
  v507.toNat
def k0_dev17 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_743 : BitVec 32 := 4#32
  let v543 : BitVec 32 := Scalar.xori v2 c4_i32_743
  let c1_i32_751 : BitVec 32 := 1#32
  let v544 : BitVec 32 := Scalar.muli v543 c1_i32_751
  let v545 : BitVec 32 := Scalar.addi c0_i32_752 v544
  v545.toNat
def k0_dev18 (d0 : Dev nD) : Nat :=
  let c0_i32_810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_800 : BitVec 32 := 4#32
  let v581 : BitVec 32 := Scalar.xori v2 c4_i32_800
  let c1_i32_809 : BitVec 32 := 1#32
  let v582 : BitVec 32 := Scalar.muli v581 c1_i32_809
  let v583 : BitVec 32 := Scalar.addi c0_i32_810 v582
  v583.toNat
def k0_dev19 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_857 : BitVec 32 := 8#32
  let v619 : BitVec 32 := Scalar.xori v2 c8_i32_857
  let c1_i32_865 : BitVec 32 := 1#32
  let v620 : BitVec 32 := Scalar.muli v619 c1_i32_865
  let v621 : BitVec 32 := Scalar.addi c0_i32_866 v620
  v621.toNat
def k0_dev20 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_914 : BitVec 32 := 8#32
  let v657 : BitVec 32 := Scalar.xori v2 c8_i32_914
  let c1_i32_923 : BitVec 32 := 1#32
  let v658 : BitVec 32 := Scalar.muli v657 c1_i32_923
  let v659 : BitVec 32 := Scalar.addi c0_i32_924 v658
  v659.toNat
def k0_dev21 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1042 : BitVec 32 := 1#32
  let v745 : BitVec 32 := Scalar.xori v2 c1_i32_1042
  let c1_i32_1051 : BitVec 32 := 1#32
  let v746 : BitVec 32 := Scalar.muli v745 c1_i32_1051
  let v747 : BitVec 32 := Scalar.addi c0_i32_1052 v746
  v747.toNat
def k0_dev22 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1069 : BitVec 32 := 1#32
  let v767 : BitVec 32 := Scalar.xori v2 c1_i32_1069
  let c1_i32_1078 : BitVec 32 := 1#32
  let v768 : BitVec 32 := Scalar.muli v767 c1_i32_1078
  let v769 : BitVec 32 := Scalar.addi c0_i32_1079 v768
  v769.toNat
def k0_dev23 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1114 : BitVec 32 := 2#32
  let c3_i32_1113 : BitVec 32 := 3#32
  let v799 : BitVec 32 := Scalar.andi v2 c3_i32_1113
  let v800 : BitVec 32 := Scalar.muli c2_i32_1114 v799
  let v801 : BitVec 32 := Scalar.subi v2 v800
  let c3_i32_1115 : BitVec 32 := 3#32
  let v802 : BitVec 32 := Scalar.addi v801 c3_i32_1115
  let c1_i32_1123 : BitVec 32 := 1#32
  let v803 : BitVec 32 := Scalar.muli v802 c1_i32_1123
  let v804 : BitVec 32 := Scalar.addi c0_i32_1124 v803
  v804.toNat
def k0_dev24 (d0 : Dev nD) : Nat :=
  let c0_i32_1184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1173 : BitVec 32 := 2#32
  let c3_i32_1172 : BitVec 32 := 3#32
  let v840 : BitVec 32 := Scalar.andi v2 c3_i32_1172
  let v841 : BitVec 32 := Scalar.muli c2_i32_1173 v840
  let v842 : BitVec 32 := Scalar.subi v2 v841
  let c3_i32_1174 : BitVec 32 := 3#32
  let v843 : BitVec 32 := Scalar.addi v842 c3_i32_1174
  let c1_i32_1183 : BitVec 32 := 1#32
  let v844 : BitVec 32 := Scalar.muli v843 c1_i32_1183
  let v845 : BitVec 32 := Scalar.addi c0_i32_1184 v844
  v845.toNat
def k0_dev25 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1231 : BitVec 32 := 4#32
  let v881 : BitVec 32 := Scalar.xori v2 c4_i32_1231
  let c1_i32_1239 : BitVec 32 := 1#32
  let v882 : BitVec 32 := Scalar.muli v881 c1_i32_1239
  let v883 : BitVec 32 := Scalar.addi c0_i32_1240 v882
  v883.toNat
def k0_dev26 (d0 : Dev nD) : Nat :=
  let c0_i32_1298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1288 : BitVec 32 := 4#32
  let v919 : BitVec 32 := Scalar.xori v2 c4_i32_1288
  let c1_i32_1297 : BitVec 32 := 1#32
  let v920 : BitVec 32 := Scalar.muli v919 c1_i32_1297
  let v921 : BitVec 32 := Scalar.addi c0_i32_1298 v920
  v921.toNat
def k0_dev27 (d0 : Dev nD) : Nat :=
  let c0_i32_1354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1345 : BitVec 32 := 8#32
  let v957 : BitVec 32 := Scalar.xori v2 c8_i32_1345
  let c1_i32_1353 : BitVec 32 := 1#32
  let v958 : BitVec 32 := Scalar.muli v957 c1_i32_1353
  let v959 : BitVec 32 := Scalar.addi c0_i32_1354 v958
  v959.toNat
def k0_dev28 (d0 : Dev nD) : Nat :=
  let c0_i32_1412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1402 : BitVec 32 := 8#32
  let v995 : BitVec 32 := Scalar.xori v2 c8_i32_1402
  let c1_i32_1411 : BitVec 32 := 1#32
  let v996 : BitVec 32 := Scalar.muli v995 c1_i32_1411
  let v997 : BitVec 32 := Scalar.addi c0_i32_1412 v996
  v997.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x1024 : Shape := ⟨2, ![64, 1024]⟩
abbrev S1024x32768 : Shape := ⟨2, ![1024, 32768]⟩
abbrev S32768x1024 : Shape := ⟨2, ![32768, 1024]⟩
abbrev S64x32768 : Shape := ⟨2, ![64, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x32768, .f32⟩
  | .hbm, ⟨2, _⟩ => ⟨S1024x32768, .f32⟩
  | .hbm, ⟨3, _⟩ => ⟨S1024x32768, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | .hbm, ⟨11, _⟩ => ⟨S64x1024, .f32⟩
  | .hbm, ⟨12, _⟩ => ⟨S64x32768, .f32⟩
  | .hbm, ⟨13, _⟩ => ⟨S_, .f32⟩
  | .hbm, ⟨14, _⟩ => ⟨S64x32768, .f32⟩
  | .hbm, ⟨15, _⟩ => ⟨S64x32768, .f32⟩
  | .hbm, ⟨16, _⟩ => ⟨S64x1024, .f32⟩
  | .hbm, ⟨17, _⟩ => ⟨S64x32768, .f32⟩
  | .hbm, ⟨18, _⟩ => ⟨S_, .f32⟩
  | .hbm, ⟨19, _⟩ => ⟨S64x32768, .f32⟩
  | .hbm, ⟨20, _⟩ => ⟨S64x32768, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Stages.lean ====
/-
The kernel's body cut into stages. One stage is the work of one communication step on one half of the columns; its
program is written once, over the step, the half and the slots it uses, and the printed body is the composition of the
stages.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Run

open Cert.KernelIdeal Cert.KernelIdeal.Gen
open Idealize.ShloMosaic Idealize.ShloMosaic.TcCoe
open Idealize.SL.Sem

variable {F : FTy → Type} [FloatOps F]

/-! ## The buffers, their slots and the semaphores -/

/-- The tokens' block. -/
abbrev xM : Memref sig .tc .vmem S64x1024 .f32 := Memref.whole cc0_stg0_0
/-- The result's block. -/
abbrev oM : Memref sig .tc .vmem S64x1024 .f32 := Memref.whole cc0_stg1_0
abbrev winM : Memref sig .tc .vmem S3x1024x2048 .f32 := Memref.whole cc0_scratch0
abbrev woutM : Memref sig .tc .vmem S3x2048x1024 .f32 := Memref.whole cc0_scratch1
/-- The layers' activations. -/
abbrev xbM : Memref sig .tc .vmem S64x1024 .f32 := Memref.whole cc0_scratch2
/-- The accumulators: two slots for each half of the columns. -/
abbrev accM : Memref sig .tc .vmem S2x2x64x512 .f32 := Memref.whole cc0_scratch3
abbrev sendM : Memref sig .tc .vmem S2x2x64x512 .bf16 := Memref.whole cc0_scratch4
/-- The landing slots: one for each step and half. -/
abbrev commM : Memref sig .tc .vmem S12x2x64x512 .bf16 := Memref.whole cc0_scratch5

theorem inb2 : ∀ i h : Fin 2, ∀ a, (![i.val, h.val, 0, 0] : Fin 4 → Nat) a + S1x1x64x512.size a ≤ S2x2x64x512.size a := by decide
theorem inb12 : ∀ (s : Fin 12) (h : Fin 2), ∀ a, (![s.val, h.val, 0, 0] : Fin 4 → Nat) a + S1x1x64x512.size a ≤ S12x2x64x512.size a := by decide
theorem inbWin : ∀ l : Fin 3, ∀ a, (![l.val, 0, 0] : Fin 3 → Nat) a + S1x1024x2048.size a ≤ S3x1024x2048.size a := by decide
theorem inbWout : ∀ l : Fin 3, ∀ a, (![l.val, 0, 0] : Fin 3 → Nat) a + S1x2048x1024.size a ≤ S3x2048x1024.size a := by decide
theorem inbS3 : ∀ l : Fin 3, ∀ a, (![l.val] : Fin 1 → Nat) a + S1.size a ≤ S3.size a := by decide
theorem inbS12 : ∀ (s : Fin 12) (h : Fin 2), ∀ a, (![s.val, h.val] : Fin 2 → Nat) a + S1x1.size a ≤ S12x2.size a := by decide
theorem inbHalf : ∀ h : Fin 2, ∀ a, (![0, 512 * h.val] : Fin 2 → Nat) a + S64x512.size a ≤ S64x1024.size a := by decide

/-- A slot of the accumulators or of the send buffer. -/
abbrev slotR (i h : Fin 2) : Rect S2x2x64x512 := Rect.unit (s := S2x2x64x512) ![i.val, h.val, 0, 0] S1x1x64x512.size (inb2 i h)
/-- A landing slot. -/
abbrev commR (s : Fin 12) (h : Fin 2) : Rect S12x2x64x512 :=
  Rect.unit (s := S12x2x64x512) ![s.val, h.val, 0, 0] S1x1x64x512.size (inb12 s h)
abbrev winR (l : Fin 3) : Rect S3x1024x2048 := Rect.unit (s := S3x1024x2048) ![l.val, 0, 0] S1x1024x2048.size (inbWin l)
abbrev woutR (l : Fin 3) : Rect S3x2048x1024 := Rect.unit (s := S3x2048x1024) ![l.val, 0, 0] S1x2048x1024.size (inbWout l)
/-- One half of the columns of a block. -/
abbrev halfR (h : Fin 2) : Rect S64x1024 := Rect.unit (s := S64x1024) ![0, 512 * h.val] S64x512.size (inbHalf h)
/-- A whole block. -/
abbrev fullR : Rect S64x1024 := Rect.unit (s := S64x1024) ![0, 0] S64x1024.size inb_S64x1024_S64x1024_0_0

theorem packedSlot : ∀ i h : Fin 2, (slotR i h).PackedRows (EltTy.packing .bf16) := by decide
theorem wordsSlot : ∀ i h : Fin 2, (slotR i h).WholeWords (EltTy.packing .bf16) := by decide
theorem wordsComm : ∀ (s : Fin 12) (h : Fin 2), (commR s h).WholeWords (EltTy.packing .bf16) := by decide

/-- The slots as the copies name them. -/
abbrev sendS (i h : Fin 2) : Memref sig .tc .vmem S64x512 .bf16 :=
  (sendM.slice (slotR i h) (fun _ => rfl)).squeeze S64x512 squeezes_S1x1x64x512_S64x512
abbrev commS (s : Fin 12) (h : Fin 2) : Memref sig .tc .vmem S64x512 .bf16 :=
  (commM.slice (commR s h) (fun _ => rfl)).squeeze S64x512 squeezes_S1x1x64x512_S64x512
abbrev winS (l : Fin 3) : Memref sig .tc .vmem S1024x2048 .f32 :=
  (winM.slice (winR l) (fun _ => rfl)).squeeze S1024x2048 squeezes_S1x1024x2048_S1024x2048
abbrev woutS (l : Fin 3) : Memref sig .tc .vmem S2048x1024 .f32 :=
  (woutM.slice (woutR l) (fun _ => rfl)).squeeze S2048x1024 squeezes_S1x2048x1024_S2048x1024

theorem sendS_exact (i h : Fin 2) : (sendS i h).view.WordExact :=
  ((Memref.isWhole_whole cc0_scratch4).wordExact_slice rfl _ (wordsSlot i h)).reshape _ _
theorem commS_exact (s : Fin 12) (h : Fin 2) : (commS s h).view.WordExact :=
  ((Memref.isWhole_whole cc0_scratch5).wordExact_slice rfl _ (wordsComm s h)).reshape _ _

/-- The weights' arrays of a layer. -/
abbrev winA : Fin 3 → Memref sig .tc .hbm S1024x2048 .f32 := ![Memref.whole main_arg1, Memref.whole main_arg2, Memref.whole main_arg3]
abbrev woutA : Fin 3 → Memref sig .tc .hbm S2048x1024 .f32 := ![Memref.whole main_arg4, Memref.whole main_arg5, Memref.whole main_arg6]

theorem winA_whole : ∀ l, (winA l).IsWhole
  | 0 => Memref.isWhole_whole _
  | 1 => Memref.isWhole_whole _
  | 2 => Memref.isWhole_whole _
theorem woutA_whole : ∀ l, (woutA l).IsWhole
  | 0 => Memref.isWhole_whole _
  | 1 => Memref.isWhole_whole _
  | 2 => Memref.isWhole_whole _

theorem winS_exact (l : Fin 3) : (winS l).view.WordExact := (View.wordExact_bits rfl).reshape _ _
theorem woutS_exact (l : Fin 3) : (woutS l).view.WordExact := (View.wordExact_bits rfl).reshape _ _

abbrev winSem (l : Fin 3) : DmaSem sig :=
  ((cc0_scratch6.slice (Rect.unit (s := S3) ![l.val] S1.size (inbS3 l))).squeeze S_ squeezes_S1_S_).sem
abbrev woutSem (l : Fin 3) : DmaSem sig :=
  ((cc0_scratch7.slice (Rect.unit (s := S3) ![l.val] S1.size (inbS3 l))).squeeze S_ squeezes_S1_S_).sem
abbrev sendSem (s : Fin 12) (h : Fin 2) : DmaSem sig :=
  ((cc0_scratch8.slice (Rect.unit (s := S12x2) ![s.val, h.val] S1x1.size (inbS12 s h))).squeeze S_ squeezes_S1x1_S_).sem
abbrev recvSem (s : Fin 12) (h : Fin 2) : DmaSem sig :=
  ((cc0_scratch9.slice (Rect.unit (s := S12x2) ![s.val, h.val] S1x1.size (inbS12 s h))).squeeze S_ squeezes_S1x1_S_).sem

/-- The barrier's semaphore. -/
abbrev barS : Sem sig := (SemArray.scalar (sig.barrier 0 rfl) : Sems sig S_).sem

/-! ## The values the stages write -/

/-- The hidden units of a layer: the product with the first weights, below by zero. -/
def hidden (x : Vec F S64x1024 .f32) (w : Vec F S1x1024x2048 .f32) : FVec F S64x2048 .f32 :=
  maximumf (matmul dot_S64x1024_S1024x2048_S64x2048_1_0_0_1_n_n none x
      (shapeCast S1024x2048 w shapeCasts_S1x1024x2048_S1024x2048) (constant S64x2048 .f32 0x00000000#32))
    (broadcast S64x2048 (Scalar.ofBits .f32 0x00000000#32))

theorem slicesHalf : ∀ h : Fin 2, S2048x1024.Slices ![0, 512 * h.val] S2048x512 := by decide

/-- One half of the columns of this device's product with the second weights. -/
def halfProd (h : Fin 2) (u : FVec F S64x2048 .f32) (w : Vec F S1x2048x1024 .f32) : FVec F S64x512 .f32 :=
  matmul dot_S64x2048_S2048x512_S64x512_1_0_0_1_n_n none u
    (extractStridedSlice S2048x512 ![0, 512 * h.val] (shapeCast S2048x1024 w shapeCasts_S1x2048x1024_S2048x1024) (slicesHalf h))
    (constant S64x512 .f32 0x00000000#32)

/-- A half as an accumulator's slot holds it. -/
def asSlot (p : FVec F S64x512 .f32) : FVec F S1x1x64x512 .f32 := shapeCast S1x1x64x512 p shapeCasts_S64x512_S1x1x64x512
/-- A half as the send buffer's slot holds it: rounded. -/
def asSend (p : FVec F S64x512 .f32) : FVec F S1x1x64x512 .bf16 :=
  shapeCast S1x1x64x512 (truncf .bf16 p bitsLt_bf16_f32) shapeCasts_S64x512_S1x1x64x512
/-- The sum of an accumulator and of what landed. -/
def plus (v : Vec F S1x1x64x512 .f32) (w : Vec F S1x1x64x512 .bf16) : FVec F S64x512 .f32 :=
  addf (shapeCast S64x512 v shapeCasts_S1x1x64x512_S64x512)
    (extf .f32 (shapeCast S64x512 w shapeCasts_S1x1x64x512_S64x512) bitsLt_bf16_f32)
/-- A block read again at its own shape. -/
def again (p : FVec F S64x512 .f32) : FVec F S64x512 .f32 := shapeCast S64x512 p shapeCasts_S64x512_S64x512

/-! ## The stages -/

abbrev P (F : FTy → Type) [FloatOps F] : Type 1 := Prog (TpuEff nD τ sig (Elt F) Λ₀ .tc) PUnit

/-- The copies of a layer's weights are started. -/
def getWin (l : Fin 3) (k : P F) : P F :=
  .op (.enqueueDma (winA l) (.here (winS l)) (.dma (winSem l)) (winA_whole l).wordExact (winS_exact l) ⟨Or.inl rfl, trivial⟩) fun _ => k
def getWout (l : Fin 3) (k : P F) : P F :=
  .op (.enqueueDma (woutA l) (.here (woutS l)) (.dma (woutSem l)) (woutA_whole l).wordExact (woutS_exact l) ⟨Or.inl rfl, trivial⟩) fun _ => k

/-- The first weights of a layer are waited for and read. -/
def useWin (l : Fin 3) (k : Vec F S1x1024x2048 .f32 → P F) : P F :=
  .op (.waitDma2 (winSem l) (winA l) (winS l) (winA_whole l).wordExact (winS_exact l)) fun _ =>
  .op (.load winM (winR l).toLoadRect (View.loadsAt_vmem h_S1x1024x2048)) k
/-- The second weights of a layer are read. -/
def readWout (l : Fin 3) (k : Vec F S1x2048x1024 .f32 → P F) : P F :=
  .op (.load woutM (woutR l).toLoadRect (View.loadsAt_vmem h_S1x2048x1024)) k
/-- The second weights of a layer are waited for and read. -/
def useWout (l : Fin 3) (k : Vec F S1x2048x1024 .f32 → P F) : P F :=
  .op (.waitDma2 (woutSem l) (woutA l) (woutS l) (woutA_whole l).wordExact (woutS_exact l)) fun _ =>
  readWout l k

/-- A half's value is put in its accumulator and, rounded, in its send slot. -/
def put (i h : Fin 2) (p : FVec F S64x512 .f32) (k : P F) : P F :=
  .op (.load accM (slotR i h).toLoadRect (View.loadsAt_vmem h_S1x1x64x512)) fun _ =>
  .op (.store accM (slotR i h) (asSlot p) Finset.univ (View.stores_vmem_bits_univ h_S1x1x64x512 rfl) (.inl rfl)) fun _ =>
  .op (.load sendM (slotR i h).toLoadRect (View.loadsAt_vmem h_S1x1x64x512)) fun _ =>
  .op (.store sendM (slotR i h) (asSend p) Finset.univ
    (View.stores_vmem h_S1x1x64x512 ((Memref.isWhole_whole cc0_scratch4).storeExact_slice rfl _ (packedSlot i h)) (fun _ => rfl)) (.inl rfl)) fun _ => k

/-- A half's send slot is sent to the partner's landing slot of the step. -/
def sendTo (s : Fin 12) (i h : Fin 2) (dst : Dev nD) (k : P F) : P F :=
  .op (.enqueueDma (sendS i h) (.remote (Dev.tc dst) (commS s h) (.dma (sendSem s h))) (.dma (recvSem s h))
    (sendS_exact i h) (commS_exact s h) ⟨⟨rfl, Or.inl rfl⟩, trivial⟩) fun _ => k

/-- A step's landing is waited for, and the accumulator and what landed are read. -/
def recv (s : Fin 12) (i h : Fin 2) (k : Vec F S1x1x64x512 .f32 → Vec F S1x1x64x512 .bf16 → P F) : P F :=
  .op (.waitDma2 (recvSem s h) (sendS i h) (commS s h) (sendS_exact i h) (commS_exact s h)) fun _ =>
  .op (.load accM (slotR i h).toLoadRect (View.loadsAt_vmem h_S1x1x64x512)) fun v =>
  .op (.load commM (commR s h).toLoadRect (View.loadsAt_vmem h_S1x1x64x512)) fun w => k v w

/-- A step's send is waited for. -/
def sent (s : Fin 12) (i h : Fin 2) (k : P F) : P F :=
  .op (.waitDma2 (sendSem s h) (commS s h) (sendS i h) (commS_exact s h) (sendS_exact i h)) fun _ => k

/-- A step inside a layer: receive, add, pass on. -/
def mid (s s' : Fin 12) (i i' h : Fin 2) (dst : Dev nD) (k : P F) : P F :=
  recv s i h fun v w => put i' h (plus v w) (sendTo s' i' h dst (sent s i h k))

/-- A half of a block is written. -/
def putHalf (m : Memref sig .tc .vmem S64x1024 .f32) (h : Fin 2) (p : FVec F S64x512 .f32) (k : P F) : P F :=
  .op (.load m (halfR h).toLoadRect (View.loadsAt_vmem h_S64x512)) fun _ =>
  .op (.store m (halfR h) p Finset.univ (View.stores_vmem_bits_univ h_S64x512 rfl) (.inl rfl)) fun _ => k

/-- A layer's last step, into the activations; -/
def last (s : Fin 12) (h : Fin 2) (k : P F) : P F :=
  recv s 1 h fun v w => sent s 1 h (putHalf xbM h (again (plus v w)) k)
/-- and the last layer's, into the result. -/
def lastOut (s : Fin 12) (h : Fin 2) (k : P F) : P F :=
  recv s 1 h fun v w => sent s 1 h (putHalf oM h (plus v w) k)

/-- The steps of a layer after its products are sent; `fin` is the layer's last step. -/
def steps (s₀ s₁ s₂ s₃ : Fin 12) (d : Fin 6 → Dev nD) (fin : Fin 12 → Fin 2 → P F → P F) (k : P F) : P F :=
  mid s₀ s₁ 0 1 0 (d 0) <| mid s₀ s₁ 0 1 1 (d 1) <|
  mid s₁ s₂ 1 0 0 (d 2) <| mid s₁ s₂ 1 0 1 (d 3) <|
  mid s₂ s₃ 0 1 0 (d 4) <| mid s₂ s₃ 0 1 1 (d 5) <|
  fin s₃ 0 <| fin s₃ 1 k

/-- A layer's products, half by half, each sent on; `bar` stands between the first half's product and its sending. -/
def products (l : Fin 3) (s : Fin 12) (x : Vec F S64x1024 .f32) (d : Fin 2 → Dev nD) (bar : P F → P F) (k : P F) : P F :=
  useWin l fun w => useWout l fun v =>
  put 0 0 (halfProd 0 (hidden x w) v) <| bar <| sendTo s 0 0 (d 0) <|
  readWout l fun v => put 0 1 (halfProd 1 (hidden x w) v) <| sendTo s 0 1 (d 1) k

/-- Four partners are signalled. -/
def signals (d : Fin 4 → Dev nD) (k : P F) : P F :=
  .op (.semSignal (Dev.tc (d 0)) barS 1) fun _ =>
  .op (.semSignal (Dev.tc (d 1)) barS 1) fun _ =>
  .op (.semSignal (Dev.tc (d 2)) barS 1) fun _ =>
  .op (.semSignal (Dev.tc (d 3)) barS 1) fun _ => k

/-- Four signals are waited for. -/
def barrier (k : P F) : P F := .op (.semWait barS 4) fun _ => k

/-- A block read whole. -/
def readFull (m : Memref sig .tc .vmem S64x1024 .f32) (k : Vec F S64x1024 .f32 → P F) : P F :=
  .op (.load m fullR.toLoadRect (View.loadsAt_vmem h_S64x1024)) k

/-- All weights are fetched. -/
def getAll (k : P F) : P F :=
  getWin 0 <| getWout 0 <| getWin 1 <| getWout 1 <| getWin 2 <| getWout 2 k

/-- The devices the kernel names, in the order in which it names them: `D i` for the `i`-th. -/
def devs (d : Dev nD) : Fin 28 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩, ⟨k0_dev16 d, k0_dev16_lt d⟩,
    ⟨k0_dev17 d, k0_dev17_lt d⟩, ⟨k0_dev18 d, k0_dev18_lt d⟩, ⟨k0_dev19 d, k0_dev19_lt d⟩, ⟨k0_dev20 d, k0_dev20_lt d⟩,
    ⟨k0_dev21 d, k0_dev21_lt d⟩, ⟨k0_dev22 d, k0_dev22_lt d⟩, ⟨k0_dev23 d, k0_dev23_lt d⟩, ⟨k0_dev24 d, k0_dev24_lt d⟩,
    ⟨k0_dev25 d, k0_dev25_lt d⟩, ⟨k0_dev26 d, k0_dev26_lt d⟩, ⟨k0_dev27 d, k0_dev27_lt d⟩, ⟨k0_dev28 d, k0_dev28_lt d⟩]

/-- The body: three layers. -/
def body : P F :=
  .op .deviceId fun d : Dev nD =>
  getAll <| signals ![devs d 0, devs d 1, devs d 2, devs d 3] <|
  readFull xM fun x =>
  products 0 0 (shapeCast S64x1024 x shapeCasts_S64x1024_S64x1024) ![devs d 4, devs d 5] barrier <|
  steps 0 1 2 3 ![devs d 6, devs d 7, devs d 8, devs d 9, devs d 10, devs d 11] last <|
  readFull xbM fun x =>
  products 1 4 x ![devs d 12, devs d 13] (fun k => k) <|
  steps 4 5 6 7 ![devs d 14, devs d 15, devs d 16, devs d 17, devs d 18, devs d 19] last <|
  readFull xbM fun x =>
  products 2 8 x ![devs d 20, devs d 21] (fun k => k) <|
  steps 8 9 10 11 ![devs d 22, devs d 23, devs d 24, devs d 25, devs d 26, devs d 27] lastOut <|
  .ret ⟨⟩

set_option maxRecDepth 65536 in
/-- The printed body is the composition of the stages. -/
theorem body_eq : bodyAt0 (F := F) t0_0 = body (F := F) := rfl

end Cert.KernelIdeal.Run

end
-- ==== Proof.Common.lean ====
/-
The protocol of the exchange. Sixteen devices add up their products by recursive doubling: in step `k` of a layer a
device exchanges its accumulator with its partner `prt k`. Here are the partners, what every buffer holds at every
step, and the semaphores with who pays them and what is handed over:

* a device's barrier semaphore is paid one unit by each of its four partners; the unit of the partner of step `k`
  hands over that partner's landing slots of step `k` of every layer, so that this device may write them;
* the semaphore of a weight's copy is paid by the copy, with the fetched weights;
* the send semaphore of a step and half is paid by the sending, with the send slot back;
* the receive semaphore of a step and half is paid by the partner's sending, with the landing slot holding the
  partner's rounded accumulator.
-/
module

public import proofs.«01_k».proof.Proof.Stages
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The partners -/

set_option backward.proofsInPublic true in
/-- The partner of a device in step `k` of a layer. -/
def prt (k : Fin 4) (c : Dev nD) : Dev nD := ⟨c.val ^^^ ((![1, 3, 4, 8] : Fin 4 → ℕ) k), by revert k c; decide +kernel⟩

theorem prt_prt : ∀ (k : Fin 4) (c : Dev nD), prt k (prt k c) = c := by decide +kernel

/-- The step of a layer that a step of the exchange is. -/
def kOf (s : Fin 12) : Fin 4 := Fin.ofNat 4 s.val
/-- The layer of a step of the exchange. -/
def lOf (s : Fin 12) : Fin 3 := Fin.ofNat 3 (s.val / 4)

theorem devs_signal : ∀ (k : Fin 4) (c : Dev nD), devs c (Fin.castLE (by decide) k) = prt k c := by decide +kernel
theorem devs_send : ∀ (j : Fin 24) (c : Dev nD),
    devs c ⟨4 + j.val, Nat.add_lt_add_left j.isLt 4⟩ = prt (Fin.ofNat 4 (j.val / 2)) c := by decide +kernel

/-! ## The values -/

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- The tokens on a device. -/
def xstg (c : Dev nD) : (cc0_stg0_0 : Ref sig .tc).ty.Contents (Elt F) :=
  (win0_0.blk (0 : Fin 1)).view.read (Elt F) ((s₀ m ρ).mem ((c : Thread nD τ).loc main_arg0))

/-- A device's weights of a layer, as the fetched buffer holds them. -/
def winV (l : Fin 3) (c : Dev nD) : Vec F S1x1024x2048 .f32 := fun y =>
  (winA l).view.read (Elt F) (m ((winA l).view.loc (c : Thread nD τ)))
    ((Shape.reshapeEquiv squeezes_S1x1024x2048_S1024x2048.numel_eq).symm y)
def woutV (l : Fin 3) (c : Dev nD) : Vec F S1x2048x1024 .f32 := fun y =>
  (woutA l).view.read (Elt F) (m ((woutA l).view.loc (c : Thread nD τ)))
    ((Shape.reshapeEquiv squeezes_S1x2048x1024_S2048x1024.numel_eq).symm y)

/-- The accumulator of a half after `k` steps of a layer whose activations on each device are `x`. -/
def accF (x : Dev nD → Vec F S64x1024 .f32) (l : Fin 3) : ℕ → Fin 2 → Dev nD → FVec F S64x512 .f32
  | 0, h, c => halfProd h (hidden (x c) (winV m l c)) (woutV m l c)
  | k + 1, h, c => plus (asSlot (accF x l k h c)) (asSend (accF x l k h (prt (Fin.ofNat 4 k) c)))

set_option backward.proofsInPublic true in
/-- Two halves side by side. -/
def join (p : Fin 2 → FVec F S64x512 .f32) : Vec F S64x1024 .f32 := fun i =>
  p ⟨(i 1).val / 512, by have := (i 1).isLt; change (i 1).val < 1024 at this; omega⟩
    (fun a => if h : a = 0 then ⟨(i 0).val, by subst h; exact (i 0).isLt⟩ else ⟨(i 1).val % 512, by
      have : a = 1 := by revert h; revert a; decide
      subst this; exact Nat.mod_lt _ (by decide)⟩)

/-- The activations entering a layer. -/
def xin : ℕ → Dev nD → Vec F S64x1024 .f32
  | 0, c => shapeCast S64x1024 (xstg m ρ c) shapeCasts_S64x1024_S64x1024
  | l + 1, c => join fun h => again (accF m (xin l) (Fin.ofNat 3 l) 4 h c)

/-- The accumulator of a half entering step `s` of the exchange. -/
def accS (s : Fin 12) (h : Fin 2) (c : Dev nD) : FVec F S64x512 .f32 := accF m (xin m ρ (lOf s).val) (lOf s) (kOf s).val h c

/-- The sum of a half that a layer ends with. -/
def sumL (l : Fin 3) (h : Fin 2) (c : Dev nD) : FVec F S64x512 .f32 := accF m (xin m ρ l.val) l 4 h c

/-- The result on a device. -/
def outAt (c : Dev nD) : (cc0_stg1_0 : Ref sig .tc).ty.Contents (Elt F) := join fun h => sumL m ρ 2 h c

/-! ## Slots holding values -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- A rectangle of a buffer of a device is held and reads as `X`. -/
def held (c : Dev nD) {sp : Space} {s : Shape} {e : EltTy} (M : Memref sig .tc sp s e) (r : Rect s) (X : r.shape.Idx → Elt F e) : sProp 𝕄 :=
  iprop(∃ f : Buf (Elt F) (M.view.loc (c : Thread nD τ)), ⌜M.view.readAt (Elt F) r.toLoadRect f = X⌝
    ∗ (M.view.loc (c : Thread nD τ) ↦[(M.access r).set]{fullShare} f))
/-- It is held at some contents. -/
def some (c : Dev nD) {sp : Space} {s : Shape} {e : EltTy} (M : Memref sig .tc sp s e) (r : Rect s) : sProp 𝕄 :=
  iprop(∃ f : Buf (Elt F) (M.view.loc (c : Thread nD τ)), (M.view.loc (c : Thread nD τ) ↦[(M.access r).set]{fullShare} f))

section Slots
variable {sp : Space} {s : Shape} {e : EltTy} (c : Dev nD) (M : Memref sig .tc sp s e) (r : Rect s)

instance held_storable (X : r.shape.Idx → Elt F e) : BI.Storable (upEmb : UEmb _ 𝕄) (held c M r X) := by unfold held; infer_instance
instance some_storable : BI.Storable (upEmb : UEmb _ 𝕄) (some (F := F) c M r) := by unfold some; infer_instance

omit [FloatOps F] in
theorem held_some (X : r.shape.Idx → Elt F e) : held c M r X ⊢ (some (F := F) c M r : sProp 𝕄) := by
  unfold held some
  iintro ⟨%f, -, H⟩
  iexists f; iexact H

end Slots

/-- A weights' array of a device is held at its launch contents. -/
def arrHeld (c : Dev nD) {s : Shape} (M : Memref sig .tc .hbm s .f32) : sProp 𝕄 :=
  (M.view.loc (c : Thread nD τ) ↦[M.view.set]{fullShare} m (M.view.loc (c : Thread nD τ)))

instance arrHeld_storable (c : Dev nD) {s : Shape} (M : Memref sig .tc .hbm s .f32) :
    BI.Storable (upEmb : UEmb _ 𝕄) (arrHeld m c M) := by unfold arrHeld; infer_instance

/-! ## The roles of the semaphores -/

/-- What a semaphore is for. -/
inductive Role where
  | none | bar | win (l : Fin 3) | wout (l : Fin 3) | send (s : Fin 12) (h : Fin 2) | recv (s : Fin 12) (h : Fin 2)
  deriving DecidableEq

/-- The role of each semaphore. -/
def role : SemLoc sig → Role
  | .reg b => if b = barS then .bar else .none
  | .dma q =>
    if q.val < 2 then .none else if q.val < 5 then .win (Fin.ofNat 3 (q.val - 2)) else if q.val < 8 then .wout (Fin.ofNat 3 (q.val - 5))
    else if q.val < 32 then .send (Fin.ofNat 12 ((q.val - 8) / 2)) (Fin.ofNat 2 q.val)
    else .recv (Fin.ofNat 12 ((q.val - 32) / 2)) (Fin.ofNat 2 q.val)

theorem role_bar : role (.reg barS) = .bar := by decide
theorem role_win : ∀ l, role (.dma (winSem l)) = .win l := by decide
theorem role_wout : ∀ l, role (.dma (woutSem l)) = .wout l := by decide
theorem role_send : ∀ s h, role (.dma (sendSem s h)) = .send s h := by decide
theorem role_recv : ∀ s h, role (.dma (recvSem s h)) = .recv s h := by decide

abbrev barCell (c : Dev nD) : GSem nD τ sig := ((c : Thread nD τ), .reg barS)
abbrev winCell (l : Fin 3) (c : Dev nD) : GSem nD τ sig := ((c : Thread nD τ), .dma (winSem l))
abbrev woutCell (l : Fin 3) (c : Dev nD) : GSem nD τ sig := ((c : Thread nD τ), .dma (woutSem l))
abbrev sendCell (s : Fin 12) (h : Fin 2) (c : Dev nD) : GSem nD τ sig := ((c : Thread nD τ), .dma (sendSem s h))
abbrev recvCell (s : Fin 12) (h : Fin 2) (c : Dev nD) : GSem nD τ sig := ((c : Thread nD τ), .dma (recvSem s h))

/-! ## The schedule -/

/-- The credit of a weight's copy and of a half's. -/
def NA : ℕ := (winS 0).view.dmaCredit
def NB : ℕ := (woutS 0).view.dmaCredit
def NC : ℕ := (commS 0 0).view.dmaCredit
theorem NA_eq (l : Fin 3) : (winS l).view.dmaCredit = NA := rfl
theorem NB_eq (l : Fin 3) : (woutS l).view.dmaCredit = NB := rfl
theorem NC_eq (s : Fin 12) (h : Fin 2) : (commS s h).view.dmaCredit = NC := rfl
theorem NA_pos : 0 < NA := View.dmaCredit_pos _ (by decide)
theorem NB_pos : 0 < NB := View.dmaCredit_pos _ (by decide)
theorem NC_pos : 0 < NC := View.dmaCredit_pos _ (by decide)

/-- What a partner's signal hands over: its landing slots of the step, of all layers and both halves. -/
def barPay (c : Dev nD) (k : Fin 4) : sProp 𝕄 :=
  bigSep Finset.univ fun lh : Fin 3 × Fin 2 => some (prt k c) commM (commR ⟨4 * lh.1.val + k.val, by omega⟩ lh.2)

/-- What the payment of a semaphore hands over, by its role. -/
def pay (c : Dev nD) (d : Fin 4) : Role → sProp 𝕄
  | .none => iprop(emp)
  | .bar => barPay c d
  | .win l => iprop(held c winM (winR l) (winV m l c) ∗ arrHeld m c (winA l))
  | .wout l => iprop(held c woutM (woutR l) (woutV m l c) ∗ arrHeld m c (woutA l))
  | .send s h => some c sendM (slotR (Fin.ofNat 2 s.val) h)
  | .recv s h => held c commM (commR s h) (asSend (accS m ρ s h (prt (kOf s) c)))

def dutiesOf : Role → Finset (Fin 4)
  | .none => ∅
  | .bar => Finset.univ
  | _ => {0}
def amountOf : Role → ℕ
  | .none => 1
  | .bar => 1
  | .win _ => NA
  | .wout _ => NB
  | _ => NC

theorem amountOf_pos (R : Role) : 0 < amountOf R := by
  cases R <;> simp only [amountOf]
  exacts [Nat.one_pos, Nat.one_pos, NA_pos, NB_pos, NC_pos, NC_pos]

instance barPay_storable (c : Dev nD) (k : Fin 4) : BI.Storable (upEmb : UEmb _ 𝕄) (barPay (F := F) c k) := by
  unfold barPay; infer_instance

instance pay_storable (c : Dev nD) (d : Fin 4) : ∀ R : Role, BI.Storable (upEmb : UEmb _ 𝕄) (pay m ρ c d R)
  | .none => by unfold pay; infer_instance
  | .bar => barPay_storable c d
  | .win l => by unfold pay; infer_instance
  | .wout l => by unfold pay; infer_instance
  | .send s h => some_storable c sendM _
  | .recv s h => held_storable c commM _ _

/-- One round: the barrier's four duties of a unit each, every other semaphore's one duty of its copy's credit. -/
def sched : Rounds.Schedule (GSem nD τ sig) (Fin 4) 𝕄 where
  duties g r := if r = 0 ∧ g.1.2 = .tc then dutiesOf (role g.2) else ∅
  unitless _ := False
  amount g _ _ := amountOf (role g.2)
  payload g _ d := pay m ρ g.1.1 d (role g.2)
  amount_pos g _ _ _ := amountOf_pos (role g.2)

instance sched_payload_storable (g : GSem nD τ sig) (r : ℕ) (d : Fin 4) :
    BI.Storable (upEmb : UEmb _ 𝕄) ((sched (F := F) m ρ).payload g r d) := by
  show BI.Storable upEmb (pay m ρ g.1.1 d (role g.2))
  infer_instance

section Sched
variable (c : Dev nD) {sm : SemLoc sig} {R : Role} (h : role sm = R)

include h in
theorem duties_of : (sched m ρ).duties ((c : Thread nD τ), sm) 0 = dutiesOf R := by
  subst h; dsimp only [sched]; exact if_pos ⟨rfl, rfl⟩
include h in
theorem amount_of (d : Fin 4) : (sched m ρ).amount ((c : Thread nD τ), sm) 0 d = amountOf R := by subst h; rfl
include h in
theorem payload_of (d : Fin 4) : (sched m ρ).payload ((c : Thread nD τ), sm) 0 d = pay m ρ c d R := by subst h; rfl

theorem duties_later (g : GSem nD τ sig) : ∀ r, 1 ≤ r → (sched m ρ).duties g r = ∅ :=
  fun r hr => by dsimp only [sched]; rw [if_neg fun h => by omega]

include h in
/-- A semaphore with one duty: what its round expects, and what it hands over. -/
theorem expect_one (h1 : dutiesOf R = {0}) : (sched m ρ).expect ((c : Thread nD τ), sm) 0 = amountOf R := by
  unfold Schedule.expect Schedule.amountOf
  rw [duties_of m ρ c h, h1, Finset.sum_singleton, amount_of m ρ c h]
include h in
theorem rest_one (h1 : dutiesOf R = {0}) :
    bigSep ((sched m ρ).duties ((c : Thread nD τ), sm) 0 \ ∅) (fun d => (sched m ρ).payload ((c : Thread nD τ), sm) 0 d) = pay m ρ c 0 R := by
  rw [Finset.sdiff_empty, duties_of m ρ c h, h1, bigSep_singleton, payload_of m ρ c h]

theorem expect_bar : (sched m ρ).expect (barCell c) 0 = 4 := by
  unfold Schedule.expect Schedule.amountOf
  rw [duties_of m ρ c role_bar, Finset.sum_congr rfl fun d _ => amount_of m ρ c role_bar d]
  rfl
theorem rest_bar :
    bigSep ((sched m ρ).duties (barCell c) 0 \ ∅) (fun d => (sched m ρ).payload (barCell c) 0 d) = bigSep Finset.univ fun k => barPay c k := by
  rw [Finset.sdiff_empty, duties_of m ρ c role_bar]
  exact bigSep_congr fun d _ => payload_of m ρ c role_bar d

end Sched

/-! ## What a device owes; the levels -/

/-- The step and the half of a message, in the order of sending. -/
def stepOf (j : ℕ) : Fin 12 := Fin.ofNat 12 (j / 2)
def halfOf (j : ℕ) : Fin 2 := Fin.ofNat 2 j

/-- The semaphore on the partner that a message pays. -/
def msgCell (c : Dev nD) (j : ℕ) : GSem nD τ sig := recvCell (stepOf j) (halfOf j) (prt (kOf (stepOf j)) c)

/-- What a device owes when its last `n` messages are not sent. -/
def owe (c : Dev nD) : ℕ → CellTallies nD τ sig Unit
  | 0 => 0
  | n + 1 => owe c n + tallyAt (msgCell c (23 - n)) () NC

/-- What a device owes before message `j`. -/
def Og (c : Dev nD) (j : ℕ) : CellTallies nD τ sig Unit := owe c (24 - j)

/-- What a device owes when it has signalled its partners from step `k` on only. -/
def Ob (c : Dev nD) : ℕ → CellTallies nD τ sig Unit
  | 0 => Og c 0
  | n + 1 => Ob c n + tallyAt (barCell (prt (Fin.ofNat 4 (3 - n)) c)) () 1

/-- What a device owes at launch. -/
def O₀ (c : Dev nD) : CellTallies nD τ sig Unit := Ob c 4

theorem stepOf_eq : ∀ (s : Fin 12) (h : Fin 2), stepOf (2 * s.val + h.val) = s := by decide
theorem halfOf_eq : ∀ (s : Fin 12) (h : Fin 2), halfOf (2 * s.val + h.val) = h := by decide

theorem Og_peel (c : Dev nD) (s : Fin 12) (h : Fin 2) :
    Og c (2 * s.val + h.val) = Og c (2 * s.val + h.val + 1) + tallyAt (recvCell s h (prt (kOf s) c)) () NC := by
  have hj : 2 * s.val + h.val < 24 := by omega
  have e : 24 - (2 * s.val + h.val) = (24 - (2 * s.val + h.val + 1)) + 1 := by omega
  unfold Og
  rw [e, owe, show 23 - (24 - (2 * s.val + h.val + 1)) = 2 * s.val + h.val by omega, msgCell, stepOf_eq, halfOf_eq]

def L (g : GSem nD τ sig) : Finset Unit := if g.1.2 = .tc then {()} else ∅
/-- The barrier is at 1, a receive semaphore at 2 and its message's number, all others at 0. -/
def lvR : Role → ℕ
  | .bar => 1
  | .recv s h => 2 + (2 * s.val + h.val)
  | _ => 0
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem step_half : ∀ j : Fin 24, 2 * (stepOf j.val).val + (halfOf j.val).val = j.val := by decide

theorem owe_pos (c : Dev nD) : ∀ (n : ℕ) {g : GSem nD τ sig} {u : Unit}, n ≤ 24 → 0 < owe c n g u →
    g.1.2 = .tc ∧ 24 - n + 2 ≤ lv g u
  | 0, g, u, _, h => absurd h (Nat.lt_irrefl 0)
  | n + 1, g, u, hn, h => by
    rw [owe, Pi.add_apply, Finsupp.add_apply, tallyAt_apply] at h
    by_cases hg : g = msgCell c (23 - n) ∧ u = ()
    · rw [hg.1]
      refine ⟨rfl, ?_⟩
      show _ ≤ lvR (role _)
      rw [show role (msgCell c (23 - n)).2 = _ from role_recv _ _]
      have := step_half ⟨23 - n, by omega⟩
      show _ ≤ 2 + _
      simp only at this
      omega
    · rw [if_neg hg, Nat.add_zero] at h
      have := owe_pos c n (by omega) h
      exact ⟨this.1, by omega⟩

theorem Og_pos (c : Dev nD) (j : ℕ) {g : GSem nD τ sig} {u : Unit} (h : 0 < Og c j g u) : g.1.2 = .tc ∧ j + 2 ≤ lv g u := by
  by_cases hj : j ≤ 24
  · have := owe_pos c (24 - j) (by omega) h
    exact ⟨this.1, by omega⟩
  · unfold Og at h
    rw [show 24 - j = 0 by omega] at h
    exact absurd h (Nat.lt_irrefl 0)

theorem Ob_pos (c : Dev nD) : ∀ (n : ℕ) {g : GSem nD τ sig} {u : Unit}, 0 < Ob c n g u → g.1.2 = .tc ∧ 1 ≤ lv g u
  | 0, g, u, h => by
    have := Og_pos c 0 h
    exact ⟨this.1, by omega⟩
  | n + 1, g, u, h => by
    rw [Ob, Pi.add_apply, Finsupp.add_apply, tallyAt_apply] at h
    by_cases hg : g = barCell (prt (Fin.ofNat 4 (3 - n)) c) ∧ u = ()
    · rw [hg.1]
      refine ⟨rfl, ?_⟩
      show 1 ≤ lvR (role _)
      rw [role_bar]
      exact le_rfl
    · rw [if_neg hg, Nat.add_zero] at h
      exact Ob_pos c n h

omit [FloatOps F] in
/-- A wait is allowed when all that is owed lies above the semaphore waited on. -/
theorem mayWait (c : Dev nD) (sm : SemLoc sig) (b : ℕ) (hb : lvR (role sm) ≤ b) (O : CellTallies nD τ sig Unit)
    (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

end Cert.KernelIdeal.Run

end
-- ==== Proof.Ops.lean ====
/-
The rules of the single stages: reading and writing a slot, starting a copy of a weight, sending a half, waiting for a
semaphore. Each is stated once, for any slot, step, half and device.
-/
module

public import proofs.«01_k».proof.Proof.Common

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## All semaphores together -/

/-- The kernel's own semaphores by their role: weights' copies, sends, receives. -/
inductive Ox where
  | win (l : Fin 3) | wout (l : Fin 3) | send (s : Fin 12) (h : Fin 2) | recv (s : Fin 12) (h : Fin 2)
  deriving DecidableEq

/-- The own semaphores role by role. -/
def oxEquiv : (Fin 3 ⊕ Fin 3) ⊕ ((Fin 12 × Fin 2) ⊕ (Fin 12 × Fin 2)) ≃ Ox where
  toFun | .inl (.inl l) => .win l | .inl (.inr l) => .wout l | .inr (.inl p) => .send p.1 p.2 | .inr (.inr p) => .recv p.1 p.2
  invFun | .win l => .inl (.inl l) | .wout l => .inl (.inr l) | .send s h => .inr (.inl (s, h)) | .recv s h => .inr (.inr (s, h))
  left_inv x := by rcases x with (_ | _) | (_ | _) <;> rfl
  right_inv x := by cases x <;> rfl

instance : Fintype Ox := Fintype.ofEquiv _ oxEquiv

def osem : Ox → SemLoc sig
  | .win l => .dma (winSem l)
  | .wout l => .dma (woutSem l)
  | .send s h => .dma (sendSem s h)
  | .recv s h => .dma (recvSem s h)
/-- And the barrier's. -/
def csem : Unit ⊕ Ox → SemLoc sig
  | .inl _ => .reg barS
  | .inr i => osem i
abbrev kcell (ci : Dev nD × (Unit ⊕ Ox)) : GSem nD τ sig := ((ci.1 : Thread nD τ), csem ci.2)

/-- A semaphore's record: its invariant, and that its round is reached. -/
def rec1 (g : GSem nD τ sig) : sProp 𝕄 := iprop((∃ κ : ℕ, cellInv ER (sched m ρ) κ g) ∗ reached ER g 0)
/-- The records of all semaphores of all devices, and the levels. -/
def recs : sProp 𝕄 := iprop((bigSep Finset.univ fun ci : Dev nD × (Unit ⊕ Ox) => rec1 m ρ (kcell ci)) ∗ levAts L lv)

instance rec1_persistent (g : GSem nD τ sig) : BI.Persistent (rec1 m ρ g) := by unfold rec1; infer_instance
instance recs_persistent : BI.Persistent (recs m ρ) := by unfold recs; infer_instance

theorem recs_all (ci : Dev nD × (Unit ⊕ Ox)) :
    (bigSep Finset.univ fun ci : Dev nD × (Unit ⊕ Ox) => rec1 m ρ (kcell ci)) ⊢ rec1 m ρ (kcell ci) :=
  bigSep_elim (Finset.mem_univ ci)
theorem recs_at (ci : Dev nD × (Unit ⊕ Ox)) : recs m ρ ⊢ rec1 m ρ (kcell ci) := by
  unfold recs
  iintro ⟨H, -⟩
  iapply (recs_all m ρ ci); iexact H
theorem recs_lev : recs m ρ ⊢ (levAts L lv : sProp 𝕄) := by
  unfold recs
  iintro ⟨-, H⟩
  iexact H
theorem rec_bar (c : Dev nD) : recs m ρ ⊢ rec1 m ρ (barCell c) := recs_at m ρ (c, .inl ())
theorem rec_win (l : Fin 3) (c : Dev nD) : recs m ρ ⊢ rec1 m ρ (winCell l c) := recs_at m ρ (c, .inr (.win l))
theorem rec_wout (l : Fin 3) (c : Dev nD) : recs m ρ ⊢ rec1 m ρ (woutCell l c) := recs_at m ρ (c, .inr (.wout l))
theorem rec_send (s : Fin 12) (h : Fin 2) (c : Dev nD) : recs m ρ ⊢ rec1 m ρ (sendCell s h c) := recs_at m ρ (c, .inr (.send s h))
theorem rec_recv (s : Fin 12) (h : Fin 2) (c : Dev nD) : recs m ρ ⊢ rec1 m ρ (recvCell s h c) := recs_at m ρ (c, .inr (.recv s h))

/-- What a device owes, whatever it has waited on. -/
def ow (c : Dev nD) (O : CellTallies nD τ sig Unit) : sProp 𝕄 := iprop(∃ W : Waits sig Unit, owes (c : Thread nD τ) O W)

/-- The rest of a device's program runs to `Q`. -/
abbrev wpc (c : Dev nD) (p : P F) (Q : PUnit → sProp 𝕄) : sProp 𝕄 :=
  wp frame (wpE (defs₀ (F := F)) 𝒱₀ (c : Thread nD τ) none) Set.univ p Q

variable {Q : PUnit.{1} → sProp (MT nD τ sig Unit (Elt F) ℕ UU ℕ)}

/-! ## Reading and writing a slot -/

section Slots
variable {cs : CoreSpace} {s : Shape} {e : EltTy} (c : Dev nD) (M : Memref sig .tc cs s e) (r : Rect s)

theorem access_setOn : M.view.setOn r.toLoadRect.set ⊆ (M.access r).set := by
  rw [show (M.access r).set = M.view.setOn r.set from View.set_slice _ _]

theorem load_held {hl : M.view.LoadsAt r.toLoadRect} (X : r.shape.Idx → Elt F e) (k : (r.shape.Idx → Elt F e) → P F) :
    iprop(held c M r X ∗ (held c M r X -∗ wpc c (k X) Q)) ⊢ wpc c (.op (.load M r.toLoadRect hl) k) Q := by
  unfold held
  iintro ⟨⟨%f, %hf, H⟩, Hk⟩
  subst hf
  iapply (wp_load 𝒱₀ (c : Thread nD τ) none Set.univ (m := M) (access_setOn M r)) $$ H
  iintro H
  iapply Hk
  iexists f
  isplitr; · ipureintro; rfl
  iexact H

theorem load_some {hl : M.view.LoadsAt r.toLoadRect} (k : (r.shape.Idx → Elt F e) → P F) :
    iprop(some c M r ∗ (∀ X, some c M r -∗ wpc c (k X) Q)) ⊢ wpc c (.op (.load M r.toLoadRect hl) k) Q := by
  unfold some
  iintro ⟨⟨%f, H⟩, Hk⟩
  iapply (wp_load 𝒱₀ (c : Thread nD τ) none Set.univ (m := M) (access_setOn M r)) $$ H
  iintro H
  iapply Hk
  iexists f
  iexact H

theorem store_some {w : r.shape.Idx → Elt F e} {hx : (M.access r).Stores Finset.univ}
    {hm : (Finset.univ : Finset r.shape.Idx) = Finset.univ ∨ ∀ a, r.stride a = 1} (k : PUnit → P F) :
    iprop(some c M r ∗ (held c M r w -∗ wpc c (k ⟨⟩) Q)) ⊢ wpc c (.op (.store M r w Finset.univ hx hm) k) Q := by
  unfold some held
  iintro ⟨⟨%f, H⟩, Hk⟩
  iapply (wp_store 𝒱₀ (c : Thread nD τ) none Set.univ (m := M) (r := r) (Mk := Finset.univ) (S := (M.access r).set) subset_rfl) $$ H
  iintro H
  iapply Hk
  iexists ((M.access r).write (Elt F) f w Finset.univ)
  isplitr
  · ipureintro
    exact View.read_write_univ _ _
  iexact H

end Slots

/-! ## A half is put into its slots -/

theorem put_rule (c : Dev nD) (i h : Fin 2) (p : FVec F S64x512 .f32) (k : P F) :
    iprop(some c accM (slotR i h) ∗ some c sendM (slotR i h)
        ∗ ((held c accM (slotR i h) (asSlot p) ∗ held c sendM (slotR i h) (asSend p)) -∗ wpc c k Q)) ⊢ wpc c (put i h p k) Q := by
  unfold put
  iintro ⟨Ha, Hs, Hk⟩
  iapply (load_some c accM (slotR i h))
  isplitl [Ha]; · iexact Ha
  iintro %X Ha
  iapply (store_some c accM (slotR i h))
  isplitl [Ha]; · iexact Ha
  iintro Ha
  iapply (load_some c sendM (slotR i h))
  isplitl [Hs]; · iexact Hs
  iintro %X Hs
  iapply (store_some c sendM (slotR i h))
  isplitl [Hs]; · iexact Hs
  iintro Hs
  iapply Hk
  isplitl [Ha]; · iexact Ha
  iexact Hs

theorem putHalf_rule (c : Dev nD) (M : Memref sig .tc .vmem S64x1024 .f32) (h : Fin 2) (p : FVec F S64x512 .f32) (k : P F) :
    iprop(some c M (halfR h) ∗ (held c M (halfR h) p -∗ wpc c k Q)) ⊢ wpc c (putHalf M h p k) Q := by
  unfold putHalf
  iintro ⟨Ha, Hk⟩
  iapply (load_some c M (halfR h))
  isplitl [Ha]; · iexact Ha
  iintro %X Ha
  iapply (store_some c M (halfR h))
  isplitl [Ha]; · iexact Ha
  iexact Hk

/-! ## Waiting -/

/-- Waiting for a copy's semaphore: the payload comes, and the semaphore is at zero. -/
theorem wait_rule (c : Dev nD) (q : DmaSem sig) (R : Role) (hR : role (.dma q) = R) (h1 : dutiesOf R = {0})
    {sp sp' : Space} {s s' : Shape} {e e' : EltTy} {src : Memref sig .tc sp' s' e'} {dst : Memref sig .tc sp s e}
    {hsrc : src.view.WordExact} {hdst : dst.view.WordExact} (hn : dst.view.dmaCredit = amountOf R)
    (O : CellTallies nD τ sig Unit) (b : ℕ) (hb : lvR R ≤ b) (hO : ∀ (g : GSem nD τ sig) (u : Unit), 0 < O g u → g.1.2 = .tc ∧ b < lv g u)
    (hrec : recs m ρ ⊢ rec1 m ρ ((c : Thread nD τ), .dma q)) (k : PUnit → P F) :
    iprop(recs m ρ ∗ cred (tallyAt ((c : Thread nD τ), .dma q) () (amountOf R)) ∗ ow c O ∗ atPos ER ((c : Thread nD τ), .dma q) 0 ∅ 0
        ∗ ((ow c O ∗ semVal ((c : Thread nD τ), .dma q) 0 ∗ pay m ρ c 0 R) -∗ wpc c (k ⟨⟩) Q))
      ⊢ wpc c (.op (.waitDma2 q src dst hsrc hdst) k) Q := by
  unfold ow
  iintro ⟨#HR, Hc, ⟨%W, HO⟩, Hat, Hk⟩
  ihave #HL := (@recs_lev F _ m ρ) $$ HR
  ihave Hr := hrec $$ HR
  unfold rec1
  icases Hr with ⟨⟨%κ, #HI⟩, -⟩
  iapply (Rounds.wp_wait_rest_token 𝒱₀ ER (sched m ρ) (c : Thread nD τ) none (κ := κ) (sm := .dma q) (k' := amountOf R)
      (fun K => by rw [← hn]; exact wpE_waitDma2_eq 𝒱₀ (c : Thread nD τ) none Set.univ K) (Set.mem_univ _) () (O := O) (W := W) (R := 0) (m := 0) (T := ∅)
      (by rw [Nat.zero_add, expect_one m ρ c hR h1])) $$ [Hc HO Hat]
  · isplitr; · iexact HI
    isplitl [Hc]; · iexact Hc
    isplitl [HO]; · iexact HO
    isplitr; · iapply (mayWait c (.dma q) b (by rw [hR]; exact hb) O hO); iexact HL
    iexact Hat
  iintro ⟨HO, Hat, -, Hpay⟩
  ihave Hp := (Entails.of_eq (rest_one m ρ c hR h1)) $$ Hpay
  imod (Rounds.cell_close ER (sched m ρ) (Set.mem_univ κ) (fun h => h) (R := 0 + 1) (duties_later m ρ _)) $$ [Hat] with Hz
  · isplitr; · iexact HI
    iexact Hat
  iapply Hk
  isplitl [HO]; · iexists _; iexact HO
  isplitl [Hz]; · iexact Hz
  iexact Hp

/-! ## Copies -/

/-- What is read through a slot's re-indexing decides what is read through the slot. -/
theorem read_of_reshape {sp : Space} {s s' : Shape} {e : EltTy} (v : View sig .tc sp s e) (hn : s'.numel = s.numel)
    (f : v.ty.Contents (Elt F)) (X : s.Idx → Elt F e)
    (h : (v.reshape s' hn).read (Elt F) f = fun j => X (Shape.reshapeEquiv hn j)) : v.read (Elt F) f = X := by
  funext y
  have := congrFun h ((Shape.reshapeEquiv hn).symm y)
  simp only [Equiv.apply_symm_apply] at this
  rw [← this]
  show v.read (Elt F) f y = v.read (Elt F) f (Shape.reshapeEquiv hn ((Shape.reshapeEquiv hn).symm y))
  rw [Equiv.apply_symm_apply]

/-- A copy's credit depends on its shape and type alone. -/
theorem credit_eq {s : Shape} {e : EltTy} (v w : View sig .tc .vmem s e) : v.dmaCredit = w.dmaCredit := rfl
theorem send_credit (i h : Fin 2) : (sendS i h).view.dmaCredit = NC := credit_eq _ _

/-- A slot as a copy names it is the slot. -/
theorem some_send (c : Dev nD) (i h : Fin 2) (f) :
    ((sendS i h).view.loc (c : Thread nD τ) ↦[(sendS i h).view.set]{fullShare} f : sProp 𝕄) ⊢ some c sendM (slotR i h) := by
  unfold some
  iintro H
  iexists f
  rw [show (sendS i h).view.set = (sendM.access (slotR i h)).set from View.set_reshape _ _]
  iexact H

theorem landed_win (c : Dev nD) (l : Fin 3) (fd) :
    iprop(((winS l).view.loc (c : Thread nD τ) ↦[(winS l).view.set]{fullShare}
          ((winS l).view.write (Elt F) fd ((winA l).view.read (Elt F) (m ((winA l).view.loc (c : Thread nD τ)))) Finset.univ))
        ∗ arrHeld m c (winA l)) ⊢ pay m ρ c 0 (.win l) := by
  unfold pay held
  iintro ⟨H, HA⟩
  isplitl [H]
  · iexists ((winS l).view.write (Elt F) fd ((winA l).view.read (Elt F) (m ((winA l).view.loc (c : Thread nD τ)))) Finset.univ)
    isplitr
    · ipureintro
      refine read_of_reshape (F := F) (winM.view.slice (winR l)) squeezes_S1x1024x2048_S1024x2048.numel_eq
        ((winS l).view.write (Elt F) fd ((winA l).view.read (Elt F) (m ((winA l).view.loc (c : Thread nD τ)))) Finset.univ) (winV m l c) ?_
      refine (View.read_write_univ _ _).trans (funext fun j => ?_)
      unfold winV
      rw [Equiv.symm_apply_apply]
    rw [show (winS l).view.set = (winM.access (winR l)).set from View.set_reshape _ _]
    iexact H
  iexact HA

theorem landed_wout (c : Dev nD) (l : Fin 3) (fd) :
    iprop(((woutS l).view.loc (c : Thread nD τ) ↦[(woutS l).view.set]{fullShare}
          ((woutS l).view.write (Elt F) fd ((woutA l).view.read (Elt F) (m ((woutA l).view.loc (c : Thread nD τ)))) Finset.univ))
        ∗ arrHeld m c (woutA l)) ⊢ pay m ρ c 0 (.wout l) := by
  unfold pay held
  iintro ⟨H, HA⟩
  isplitl [H]
  · iexists ((woutS l).view.write (Elt F) fd ((woutA l).view.read (Elt F) (m ((woutA l).view.loc (c : Thread nD τ)))) Finset.univ)
    isplitr
    · ipureintro
      refine read_of_reshape (F := F) (woutM.view.slice (woutR l)) squeezes_S1x2048x1024_S2048x1024.numel_eq
        ((woutS l).view.write (Elt F) fd ((woutA l).view.read (Elt F) (m ((woutA l).view.loc (c : Thread nD τ)))) Finset.univ) (woutV m l c) ?_
      refine (View.read_write_univ _ _).trans (funext fun j => ?_)
      unfold woutV
      rw [Equiv.symm_apply_apply]
    rw [show (woutS l).view.set = (woutM.access (woutR l)).set from View.set_reshape _ _]
    iexact H
  iexact HA

theorem getWin_rule (c : Dev nD) (l : Fin 3) (k : P F) :
    iprop(recs m ρ ∗ arrHeld m c (winA l) ∗ some c winM (winR l) ∗ dutyTok ER (winCell l c) 0 (0 : Fin 4)
        ∗ (cred (tallyAt (winCell l c) () NA) -∗ wpc c k Q)) ⊢ wpc c (getWin l k) Q := by
  unfold getWin
  iintro ⟨#HR, HA, HS, Ht, Hk⟩
  ihave Hr := (@rec_win F _ m ρ l c) $$ HR
  unfold rec1
  icases Hr with ⟨⟨%κ, #HI⟩, #Hre⟩
  unfold some
  icases HS with ⟨%fd, HS⟩
  iapply (Rounds.wp_copy_pointsTo 𝒱₀ ER (sched m ρ) (c : Thread nD τ) none (κ := κ) (r := 0) (d := 0)
      (src := winA l) (dst := winS l) (sem := .dma (winSem l)) (fs := m ((winA l).view.loc (c : Thread nD τ))) (fd := fd) (q := fullShare)
      (by rw [duties_of m ρ c (role_win l)]; exact Finset.mem_singleton_self _) () NA (NA_eq l) (amount_of m ρ c (role_win l) 0)
      (by rw [payload_of m ρ c (role_win l)]; exact landed_win m ρ c l fd)) $$ [HA HS Ht]
  · isplitr; · iexact HI
    isplitl [HA]; · unfold arrHeld; iexact HA
    isplitl [HS]
    · rw [show (winS l).view.set = (winM.access (winR l)).set from View.set_reshape _ _]
      iexact HS
    isplitl [Ht]; · iexact Ht
    iexact Hre
  iexact Hk

theorem getWout_rule (c : Dev nD) (l : Fin 3) (k : P F) :
    iprop(recs m ρ ∗ arrHeld m c (woutA l) ∗ some c woutM (woutR l) ∗ dutyTok ER (woutCell l c) 0 (0 : Fin 4)
        ∗ (cred (tallyAt (woutCell l c) () NB) -∗ wpc c k Q)) ⊢ wpc c (getWout l k) Q := by
  unfold getWout
  iintro ⟨#HR, HA, HS, Ht, Hk⟩
  ihave Hr := (@rec_wout F _ m ρ l c) $$ HR
  unfold rec1
  icases Hr with ⟨⟨%κ, #HI⟩, #Hre⟩
  unfold some
  icases HS with ⟨%fd, HS⟩
  iapply (Rounds.wp_copy_pointsTo 𝒱₀ ER (sched m ρ) (c : Thread nD τ) none (κ := κ) (r := 0) (d := 0)
      (src := woutA l) (dst := woutS l) (sem := .dma (woutSem l)) (fs := m ((woutA l).view.loc (c : Thread nD τ))) (fd := fd) (q := fullShare)
      (by rw [duties_of m ρ c (role_wout l)]; exact Finset.mem_singleton_self _) () NB (NB_eq l) (amount_of m ρ c (role_wout l) 0)
      (by rw [payload_of m ρ c (role_wout l)]; exact landed_wout m ρ c l fd)) $$ [HA HS Ht]
  · isplitr; · iexact HI
    isplitl [HA]; · unfold arrHeld; iexact HA
    isplitl [HS]
    · rw [show (woutS l).view.set = (woutM.access (woutR l)).set from View.set_reshape _ _]
      iexact HS
    isplitl [Ht]; · iexact Ht
    iexact Hre
  iexact Hk

/-! ## Sending a half -/

/-- What a device holds for a message before it is sent: the two duties it pays, the credit of the one it receives, its
    places on its own two semaphores. -/
def unsent (s : Fin 12) (h : Fin 2) (c : Dev nD) : sProp 𝕄 :=
  iprop(dutyTok ER (sendCell s h c) 0 (0 : Fin 4) ∗ dutyTok ER (recvCell s h (prt (kOf s) c)) 0 (0 : Fin 4)
    ∗ cred (tallyAt (recvCell s h c) () NC) ∗ atPos ER (sendCell s h c) 0 ∅ 0 ∗ atPos ER (recvCell s h c) 0 ∅ 0)
/-- Its partner's landing slot. -/
def landing (s : Fin 12) (h : Fin 2) (c : Dev nD) : sProp 𝕄 := some (prt (kOf s) c) commM (commR s h)
/-- While it is in flight. -/
def flying (s : Fin 12) (h : Fin 2) (c : Dev nD) : sProp 𝕄 :=
  iprop(cred (tallyAt (sendCell s h c) () NC) ∗ cred (tallyAt (recvCell s h c) () NC)
    ∗ atPos ER (sendCell s h c) 0 ∅ 0 ∗ atPos ER (recvCell s h c) 0 ∅ 0)
/-- When it is sent and the partner's received. -/
def done (s : Fin 12) (h : Fin 2) (c : Dev nD) : sProp 𝕄 :=
  iprop(semVal (sendCell s h c) 0 ∗ semVal (recvCell s h c) 0 ∗ some c commM (commR s h))

theorem pay_send (c : Dev nD) (s : Fin 12) (h : Fin 2) :
    pay m ρ c 0 (.send s h) = some c sendM (slotR (Fin.ofNat 2 s.val) h) := rfl
theorem pay_recv (c : Dev nD) (s : Fin 12) (h : Fin 2) :
    pay m ρ (prt (kOf s) c) 0 (.recv s h) = held (prt (kOf s) c) commM (commR s h) (asSend (accS m ρ s h c)) :=
  congrArg (fun x => held (prt (kOf s) c) commM (commR s h) (asSend (accS m ρ s h x))) (prt_prt (kOf s) c)

theorem landed_comm (c : Dev nD) (s : Fin 12) (i h : Fin 2) (fs) (fd)
    (hfs : sendM.view.readAt (Elt F) (slotR i h).toLoadRect fs = asSend (accS m ρ s h c)) :
    ((commS s h).view.loc (prt (kOf s) c : Thread nD τ) ↦[(commS s h).view.set]{fullShare}
          ((commS s h).view.write (Elt F) fd ((sendS i h).view.read (Elt F) fs) Finset.univ))
      ⊢ pay m ρ (prt (kOf s) c) 0 (.recv s h) := by
  rw [pay_recv]
  unfold held
  iintro H
  iexists ((commS s h).view.write (Elt F) fd ((sendS i h).view.read (Elt F) fs) Finset.univ)
  isplitr
  · ipureintro
    refine read_of_reshape (F := F) (commM.view.slice (commR s h)) squeezes_S1x1x64x512_S64x512.numel_eq
      ((commS s h).view.write (Elt F) fd ((sendS i h).view.read (Elt F) fs) Finset.univ) _ ?_
    refine (View.read_write_univ _ _).trans (funext fun j => ?_)
    exact congrFun hfs (Shape.reshapeEquiv squeezes_S1x1x64x512_S64x512.numel_eq j)
  rw [show (commS s h).view.set = (commM.access (commR s h)).set from View.set_reshape _ _]
  iexact H

theorem sendTo_rule (c dst : Dev nD) (s : Fin 12) (i h : Fin 2) (hd : dst = prt (kOf s) c) (hi : Fin.ofNat 2 s.val = i) (k : P F) :
    iprop(recs m ρ ∗ ow c (Og c (2 * s.val + h.val)) ∗ unsent s h c ∗ landing s h c
        ∗ held c sendM (slotR i h) (asSend (accS m ρ s h c))
        ∗ ((ow c (Og c (2 * s.val + h.val + 1)) ∗ flying s h c) -∗ wpc c k Q)) ⊢ wpc c (sendTo s i h dst k) Q := by
  subst hd
  unfold sendTo unsent landing flying ow some held
  iintro ⟨#HR, ⟨%W, HO⟩, ⟨Ht1, Ht2, Hc, Ha1, Ha2⟩, ⟨%fd, HD⟩, ⟨%fs, %hfs, HS⟩, Hk⟩
  ihave Hr := (@rec_send F _ m ρ s h c) $$ HR
  ihave Hr' := (@rec_recv F _ m ρ s h (prt (kOf s) c)) $$ HR
  unfold rec1
  icases Hr with ⟨⟨%κ, #HI⟩, #Hre⟩
  icases Hr' with ⟨⟨%κ', #HI'⟩, #Hre'⟩
  iapply (Rounds.wp_send_pointsTo 𝒱₀ ER (sched m ρ) (c : Thread nD τ) none (κ₁ := κ) (κ₂ := κ') (c' := (prt (kOf s) c : Thread nD τ))
      (src := sendS i h) (dst := commS s h) (sS := .dma (sendSem s h)) (sem := .dma (recvSem s h))
      (r₁ := 0) (r₂ := 0) (d₁ := 0) (d₂ := 0) (fs := fs) (fd := fd) (q := fullShare)
      (by rw [duties_of m ρ c (role_send s h)]; exact Finset.mem_singleton_self _)
      (by rw [duties_of m ρ _ (role_recv s h)]; exact Finset.mem_singleton_self _)
      () () NC (NC_eq s h) (amount_of m ρ c (role_send s h) 0) (amount_of m ρ _ (role_recv s h) 0)
      (Og c (2 * s.val + h.val + 1)) (Og_peel c s h) (W := W)
      (by rw [payload_of m ρ c (role_send s h)]; rw [pay_send, hi]; exact some_send c i h fs)
      (by rw [payload_of m ρ _ (role_recv s h)]; exact landed_comm m ρ c s i h fs fd hfs)) $$ [HO HD HS Ht1 Ht2]
  · isplitr; · iexact HI
    isplitr; · iexact HI'
    isplitl [HS]
    · rw [show (sendS i h).view.set = (sendM.access (slotR i h)).set from View.set_reshape _ _]
      iexact HS
    isplitl [HD]
    · rw [show (commS s h).view.set = (commM.access (commR s h)).set from View.set_reshape _ _]
      iexact HD
    isplitl [HO]; · iexact HO
    isplitl [Ht1]; · iexact Ht1
    isplitr; · iexact Hre
    isplitl [Ht2]; · iexact Ht2
    iexact Hre'
  iintro ⟨Hs, HO⟩
  iapply Hk
  isplitl [HO]; · iexists W; iexact HO
  isplitl [Hs]; · iexact Hs
  isplitl [Hc]; · iexact Hc
  isplitl [Ha1]; · iexact Ha1
  iexact Ha2

end Cert.KernelIdeal.Run

end
-- ==== Proof.Steps.lean ====
/-
The rules of a step of the exchange and of a whole layer. Each is stated once, for any step, half, layer and device.
-/
module

public import proofs.«01_k».proof.Proof.Ops

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

variable {Q : PUnit.{1} → sProp (MT nD τ sig Unit (Elt F) ℕ UU ℕ)}

/-! ## The steps of a layer -/

set_option backward.proofsInPublic true in
/-- Step `k` of layer `l`. -/
def st (l : Fin 3) (k : Fin 4) : Fin 12 := ⟨4 * l.val + k.val, by omega⟩

theorem kOf_st : ∀ l k, kOf (st l k) = k := by decide
theorem lOf_st : ∀ l k, lOf (st l k) = l := by decide
theorem par_st0 : ∀ l, Fin.ofNat 2 (st l 0).val = 0 := by decide
theorem par_st1 : ∀ l, Fin.ofNat 2 (st l 1).val = 1 := by decide
theorem par_st2 : ∀ l, Fin.ofNat 2 (st l 2).val = 0 := by decide
theorem par_st3 : ∀ l, Fin.ofNat 2 (st l 3).val = 1 := by decide

theorem accS_st (l : Fin 3) (k : Fin 4) (h : Fin 2) (c : Dev nD) : accS m ρ (st l k) h c = accF m (xin m ρ l.val) l k.val h c := by
  unfold accS; rw [lOf_st, kOf_st]

/-- The sum of an accumulator entering a step and of its partner's, rounded. -/
def nextS (s : Fin 12) (h : Fin 2) (c : Dev nD) : FVec F S64x512 .f32 :=
  plus (asSlot (accS m ρ s h c)) (asSend (accS m ρ s h (prt (kOf s) c)))

theorem nextS_st (l : Fin 3) (k : Fin 4) (h : Fin 2) (c : Dev nD) :
    nextS m ρ (st l k) h c = accF m (xin m ρ l.val) l (k.val + 1) h c := by
  unfold nextS
  rw [accS_st, accS_st, kOf_st, accF, Fin.ofNat_val_eq_self]

theorem accS_succ (l : Fin 3) (k k' : Fin 4) (hk : k'.val = k.val + 1) (h : Fin 2) (c : Dev nD) :
    accS m ρ (st l k') h c = nextS m ρ (st l k) h c := by
  rw [nextS_st, accS_st, hk]

/-! ## Receiving, and the send's wait -/

theorem above (c : Dev nD) (j b : ℕ) (hb : b < j + 2) :
    ∀ (g : GSem nD τ sig) (u : Unit), 0 < Og c j g u → g.1.2 = .tc ∧ b < lv g u :=
  fun g u h => ⟨(Og_pos c j h).1, lt_of_lt_of_le hb (Og_pos c j h).2⟩

theorem recv_rule (c : Dev nD) (s : Fin 12) (i h : Fin 2) (j : ℕ) (hj : 2 * s.val + h.val < j)
    (k : Vec F S1x1x64x512 .f32 → Vec F S1x1x64x512 .bf16 → P F) :
    iprop(recs m ρ ∗ cred (tallyAt (recvCell s h c) () NC) ∗ ow c (Og c j) ∗ atPos ER (recvCell s h c) 0 ∅ 0
        ∗ held c accM (slotR i h) (asSlot (accS m ρ s h c))
        ∗ ((ow c (Og c j) ∗ semVal (recvCell s h c) 0 ∗ some c accM (slotR i h) ∗ some c commM (commR s h))
            -∗ wpc c (k (asSlot (accS m ρ s h c)) (asSend (accS m ρ s h (prt (kOf s) c)))) Q)) ⊢ wpc c (recv s i h k) Q := by
  unfold recv
  iintro ⟨#HR, Hc, HO, Hat, Hacc, Hk⟩
  iapply (wait_rule m ρ c (recvSem s h) (.recv s h) (role_recv s h) rfl (NC_eq s h) (Og c j) (2 + (2 * s.val + h.val)) le_rfl
    (above c j _ (by omega)) (rec_recv m ρ s h c))
  isplitr; · iexact HR
  isplitl [Hc]; · iexact Hc
  isplitl [HO]; · iexact HO
  isplitl [Hat]; · iexact Hat
  iintro ⟨HO, Hz, Hp⟩
  iapply (load_held c accM (slotR i h) (asSlot (accS m ρ s h c)))
  isplitl [Hacc]; · iexact Hacc
  iintro Hacc
  iapply (load_held c commM (commR s h) (asSend (accS m ρ s h (prt (kOf s) c))))
  isplitl [Hp]; · unfold pay; iexact Hp
  iintro Hp
  iapply Hk
  isplitl [HO]; · iexact HO
  isplitl [Hz]; · iexact Hz
  isplitl [Hacc]; · iapply (held_some c accM (slotR i h)); iexact Hacc
  iapply (held_some c commM (commR s h)); iexact Hp

theorem sent_rule (c : Dev nD) (s : Fin 12) (i h : Fin 2) (hi : Fin.ofNat 2 s.val = i) (j : ℕ) (k : P F) :
    iprop(recs m ρ ∗ cred (tallyAt (sendCell s h c) () NC) ∗ ow c (Og c j) ∗ atPos ER (sendCell s h c) 0 ∅ 0
        ∗ ((ow c (Og c j) ∗ semVal (sendCell s h c) 0 ∗ some c sendM (slotR i h)) -∗ wpc c k Q)) ⊢ wpc c (sent s i h k) Q := by
  unfold sent
  iintro ⟨#HR, Hc, HO, Hat, Hk⟩
  iapply (wait_rule m ρ c (sendSem s h) (.send s h) (role_send s h) rfl (send_credit i h) (Og c j) 0 le_rfl
    (above c j _ (by omega)) (rec_send m ρ s h c))
  isplitr; · iexact HR
  isplitl [Hc]; · iexact Hc
  isplitl [HO]; · iexact HO
  isplitl [Hat]; · iexact Hat
  iintro ⟨HO, Hz, Hp⟩
  iapply Hk
  isplitl [HO]; · iexact HO
  isplitl [Hz]; · iexact Hz
  iapply (Entails.of_eq (show pay m ρ c 0 (.send s h) = some c sendM (slotR i h) by rw [pay_send, hi]))
  iexact Hp

/-! ## A step -/

/-- A half between two steps: its message in flight, its accumulator in slot `i`, the other slots free. -/
def between (s : Fin 12) (i i' h : Fin 2) (c : Dev nD) : sProp 𝕄 :=
  iprop(flying s h c ∗ held c accM (slotR i h) (asSlot (accS m ρ s h c)) ∗ some c accM (slotR i' h) ∗ some c sendM (slotR i' h))
/-- A half's slots, all free. -/
def free (i i' h : Fin 2) (c : Dev nD) : sProp 𝕄 :=
  iprop((some c accM (slotR i h) ∗ some c sendM (slotR i h)) ∗ (some c accM (slotR i' h) ∗ some c sendM (slotR i' h)))

theorem mid_rule (c dst : Dev nD) (s s' : Fin 12) (i i' h : Fin 2) (hd : dst = prt (kOf s') c) (hs : s'.val = s.val + 1)
    (hi : Fin.ofNat 2 s.val = i) (hi' : Fin.ofNat 2 s'.val = i') (hacc : accS m ρ s' h c = nextS m ρ s h c) (k : P F) :
    iprop(recs m ρ ∗ ow c (Og c (2 * s'.val + h.val)) ∗ between m ρ s i i' h c ∗ unsent s' h c ∗ landing s' h c
        ∗ ((ow c (Og c (2 * s'.val + h.val + 1)) ∗ done s h c ∗ between m ρ s' i' i h c) -∗ wpc c k Q))
      ⊢ wpc c (mid s s' i i' h dst k) Q := by
  unfold mid between flying
  iintro ⟨#HR, HO, ⟨⟨Hc1, Hc2, Ha1, Ha2⟩, Hacc, Hacc', Hs'⟩, HU, HL, Hk⟩
  iapply (recv_rule m ρ c s i h (2 * s'.val + h.val) (by omega))
  isplitr; · iexact HR
  isplitl [Hc2]; · iexact Hc2
  isplitl [HO]; · iexact HO
  isplitl [Ha2]; · iexact Ha2
  isplitl [Hacc]; · iexact Hacc
  iintro ⟨HO, Hz2, Hacc, Hcm⟩
  iapply (put_rule c i' h)
  isplitl [Hacc']; · iexact Hacc'
  isplitl [Hs']; · iexact Hs'
  rw [show plus (asSlot (accS m ρ s h c)) (asSend (accS m ρ s h (prt (kOf s) c))) = accS m ρ s' h c from hacc.symm]
  iintro ⟨Hacc', Hs'⟩
  iapply (sendTo_rule m ρ c dst s' i' h hd hi')
  isplitr; · iexact HR
  isplitl [HO]; · iexact HO
  isplitl [HU]; · iexact HU
  isplitl [HL]; · iexact HL
  isplitl [Hs']; · iexact Hs'
  iintro ⟨HO, HF⟩
  iapply (sent_rule m ρ c s i h hi)
  isplitr; · iexact HR
  isplitl [Hc1]; · iexact Hc1
  isplitl [HO]; · iexact HO
  isplitl [Ha1]; · iexact Ha1
  iintro ⟨HO, Hz1, Hs⟩
  iapply Hk
  isplitl [HO]; · iexact HO
  isplitl [Hz1 Hz2 Hcm]
  · unfold done
    isplitl [Hz1]; · iexact Hz1
    isplitl [Hz2]; · iexact Hz2
    iexact Hcm
  isplitl [HF]; · unfold flying; iexact HF
  isplitl [Hacc']; · iexact Hacc'
  isplitl [Hacc]; · iexact Hacc
  iexact Hs

/-- A layer's last step, into a block, through a change of form. -/
def fin (M : Memref sig .tc .vmem S64x1024 .f32) (g : FVec F S64x512 .f32 → FVec F S64x512 .f32) (s : Fin 12) (h : Fin 2) (k : P F) : P F :=
  recv s 1 h fun v w => sent s 1 h (putHalf M h (g (plus v w)) k)

theorem fin_rule (c : Dev nD) (M : Memref sig .tc .vmem S64x1024 .f32) (g : FVec F S64x512 .f32 → FVec F S64x512 .f32)
    (s : Fin 12) (h : Fin 2) (j : ℕ) (hj : 2 * s.val + h.val < j) (hi : Fin.ofNat 2 s.val = 1) (k : P F) :
    iprop(recs m ρ ∗ ow c (Og c j) ∗ between m ρ s 1 0 h c ∗ some c M (halfR h)
        ∗ ((ow c (Og c j) ∗ done s h c ∗ free 0 1 h c ∗ held c M (halfR h) (g (nextS m ρ s h c))) -∗ wpc c k Q))
      ⊢ wpc c (fin M g s h k) Q := by
  unfold fin between flying
  iintro ⟨#HR, HO, ⟨⟨Hc1, Hc2, Ha1, Ha2⟩, Hacc, Hacc', Hs'⟩, HM, Hk⟩
  iapply (recv_rule m ρ c s 1 h j hj)
  isplitr; · iexact HR
  isplitl [Hc2]; · iexact Hc2
  isplitl [HO]; · iexact HO
  isplitl [Ha2]; · iexact Ha2
  isplitl [Hacc]; · iexact Hacc
  iintro ⟨HO, Hz2, Hacc, Hcm⟩
  iapply (sent_rule m ρ c s 1 h hi)
  isplitr; · iexact HR
  isplitl [Hc1]; · iexact Hc1
  isplitl [HO]; · iexact HO
  isplitl [Ha1]; · iexact Ha1
  iintro ⟨HO, Hz1, Hs⟩
  iapply (putHalf_rule c M h)
  isplitl [HM]; · iexact HM
  iintro HM
  iapply Hk
  isplitl [HO]; · iexact HO
  isplitl [Hz1 Hz2 Hcm]
  · unfold done
    isplitl [Hz1]; · iexact Hz1
    isplitl [Hz2]; · iexact Hz2
    iexact Hcm
  isplitl [Hacc Hs Hacc' Hs']
  · unfold free
    isplitl [Hacc' Hs']
    · isplitl [Hacc']; · iexact Hacc'
      iexact Hs'
    isplitl [Hacc]; · iexact Hacc
    iexact Hs
  unfold nextS
  iexact HM

/-! ## The weights -/

/-- What a device holds for a layer's weights before it waits for them: -/
def weights (l : Fin 3) (c : Dev nD) : sProp 𝕄 :=
  iprop((cred (tallyAt (winCell l c) () NA) ∗ atPos ER (winCell l c) 0 ∅ 0)
    ∗ (cred (tallyAt (woutCell l c) () NB) ∗ atPos ER (woutCell l c) 0 ∅ 0))
/-- and when it has used them. -/
def weighed (l : Fin 3) (c : Dev nD) : sProp 𝕄 :=
  iprop((semVal (winCell l c) 0 ∗ some c winM (winR l) ∗ arrHeld m c (winA l))
    ∗ (semVal (woutCell l c) 0 ∗ some c woutM (woutR l) ∗ arrHeld m c (woutA l)))

theorem useWin_rule (c : Dev nD) (l : Fin 3) (j : ℕ) (k : Vec F S1x1024x2048 .f32 → P F) :
    iprop(recs m ρ ∗ (cred (tallyAt (winCell l c) () NA) ∗ atPos ER (winCell l c) 0 ∅ 0) ∗ ow c (Og c j)
        ∗ ((ow c (Og c j) ∗ (semVal (winCell l c) 0 ∗ some c winM (winR l) ∗ arrHeld m c (winA l))) -∗ wpc c (k (winV m l c)) Q))
      ⊢ wpc c (useWin l k) Q := by
  unfold useWin
  iintro ⟨#HR, ⟨Hc, Hat⟩, HO, Hk⟩
  iapply (wait_rule m ρ c (winSem l) (.win l) (role_win l) rfl (NA_eq l) (Og c j) 0 le_rfl (above c j _ (by omega)) (rec_win m ρ l c))
  isplitr; · iexact HR
  isplitl [Hc]; · iexact Hc
  isplitl [HO]; · iexact HO
  isplitl [Hat]; · iexact Hat
  unfold pay
  iintro ⟨HO, Hz, HW, HA⟩
  iapply (load_held c winM (winR l) (winV m l c))
  isplitl [HW]; · iexact HW
  iintro HW
  iapply Hk
  isplitl [HO]; · iexact HO
  isplitl [Hz]; · iexact Hz
  isplitl [HW]; · iapply (held_some c winM (winR l)); iexact HW
  iexact HA

theorem useWout_rule (c : Dev nD) (l : Fin 3) (j : ℕ) (k : Vec F S1x2048x1024 .f32 → P F) :
    iprop(recs m ρ ∗ (cred (tallyAt (woutCell l c) () NB) ∗ atPos ER (woutCell l c) 0 ∅ 0) ∗ ow c (Og c j)
        ∗ ((ow c (Og c j) ∗ (semVal (woutCell l c) 0 ∗ held c woutM (woutR l) (woutV m l c) ∗ arrHeld m c (woutA l)))
            -∗ wpc c (k (woutV m l c)) Q))
      ⊢ wpc c (useWout l k) Q := by
  unfold useWout readWout
  iintro ⟨#HR, ⟨Hc, Hat⟩, HO, Hk⟩
  iapply (wait_rule m ρ c (woutSem l) (.wout l) (role_wout l) rfl (NB_eq l) (Og c j) 0 le_rfl (above c j _ (by omega)) (rec_wout m ρ l c))
  isplitr; · iexact HR
  isplitl [Hc]; · iexact Hc
  isplitl [HO]; · iexact HO
  isplitl [Hat]; · iexact Hat
  unfold pay
  iintro ⟨HO, Hz, HW, HA⟩
  iapply (load_held c woutM (woutR l) (woutV m l c))
  isplitl [HW]; · iexact HW
  iintro HW
  iapply Hk
  isplitl [HO]; · iexact HO
  isplitl [Hz]; · iexact Hz
  isplitl [HW]; · iexact HW
  iexact HA

/-! ## A layer -/

/-- Something for each step and half of a layer. -/
def all8 (Φ : Fin 4 → Fin 2 → sProp 𝕄) : sProp 𝕄 := bigSep Finset.univ fun p : Fin 4 × Fin 2 => Φ p.1 p.2

omit [FloatOps F] in
theorem all8_eq (Φ : Fin 4 → Fin 2 → sProp 𝕄) :
    all8 Φ = iprop(Φ 0 0 ∗ Φ 0 1 ∗ Φ 1 0 ∗ Φ 1 1 ∗ Φ 2 0 ∗ Φ 2 1 ∗ Φ 3 0 ∗ Φ 3 1) := by
  unfold all8
  exact bigSep_univ_eq_bigSepL [(0, 0), (0, 1), (1, 0), (1, 1), (2, 0), (2, 1), (3, 0), (3, 1)] (by decide) (by decide) _

/-- The landing slots of a layer's partners. -/
def landings (l : Fin 3) (c : Dev nD) : sProp 𝕄 := all8 fun k h => landing (st l k) h c
def unsents (l : Fin 3) (c : Dev nD) : sProp 𝕄 := all8 fun k h => unsent (st l k) h c
def dones (l : Fin 3) (c : Dev nD) : sProp 𝕄 := all8 fun k h => done (st l k) h c

theorem products_rule (c : Dev nD) (l : Fin 3) (d : Fin 2 → Dev nD) (hd : ∀ i, d i = prt 0 c) (bar : P F → P F) (B R : sProp 𝕄)
    (hbar : ∀ k : P F, iprop(recs m ρ ∗ ow c (Og c (2 * (st l 0).val)) ∗ B
        ∗ ((ow c (Og c (2 * (st l 0).val)) ∗ landings l c ∗ R) -∗ wpc c k Q)) ⊢ wpc c (bar k) Q) (k : P F) :
    iprop(recs m ρ ∗ ow c (Og c (2 * (st l 0).val)) ∗ B ∗ weights l c ∗ (unsent (st l 0) 0 c ∗ unsent (st l 0) 1 c)
        ∗ (free 0 1 0 c ∗ free 0 1 1 c)
        ∗ ((ow c (Og c (2 * (st l 1).val)) ∗ R ∗ weighed m l c
            ∗ (between m ρ (st l 0) 0 1 0 c ∗ between m ρ (st l 0) 0 1 1 c)
            ∗ (landing (st l 1) 0 c ∗ landing (st l 1) 1 c ∗ landing (st l 2) 0 c ∗ landing (st l 2) 1 c
              ∗ landing (st l 3) 0 c ∗ landing (st l 3) 1 c)) -∗ wpc c k Q))
      ⊢ wpc c (products l (st l 0) (xin m ρ l.val c) d bar k) Q := by
  unfold products weights free
  iintro ⟨#HR, HO, HB, ⟨Hw1, Hw2⟩, ⟨HU0, HU1⟩, ⟨⟨⟨Ha0, Hs0⟩, ⟨Ha0', Hs0'⟩⟩, ⟨⟨Ha1, Hs1⟩, ⟨Ha1', Hs1'⟩⟩⟩, Hk⟩
  iapply (useWin_rule m ρ c l _)
  isplitr; · iexact HR
  isplitl [Hw1]; · iexact Hw1
  isplitl [HO]; · iexact HO
  iintro ⟨HO, Hw1⟩
  iapply (useWout_rule m ρ c l _)
  isplitr; · iexact HR
  isplitl [Hw2]; · iexact Hw2
  isplitl [HO]; · iexact HO
  iintro ⟨HO, Hz2, Hw2, HA2⟩
  iapply (put_rule c 0 0)
  isplitl [Ha0]; · iexact Ha0
  isplitl [Hs0]; · iexact Hs0
  rw [show halfProd 0 (hidden (xin m ρ l.val c) (winV m l c)) (woutV m l c) = accS m ρ (st l 0) 0 c from (accS_st m ρ l 0 0 c).symm]
  iintro ⟨Ha0, Hs0⟩
  iapply hbar
  isplitr; · iexact HR
  isplitl [HO]; · iexact HO
  isplitl [HB]; · iexact HB
  unfold landings
  rw [all8_eq]
  iintro ⟨HO, ⟨HL0, HL1, HL⟩, HRr⟩
  iapply (sendTo_rule m ρ c (d 0) (st l 0) 0 0 (by rw [hd, kOf_st]) (par_st0 l))
  isplitr; · iexact HR
  isplitl [HO]; · iexact HO
  isplitl [HU0]; · iexact HU0
  isplitl [HL0]; · iexact HL0
  isplitl [Hs0]; · iexact Hs0
  iintro ⟨HO, HF0⟩
  unfold readWout
  iapply (load_held c woutM (woutR l) (woutV m l c))
  isplitl [Hw2]; · iexact Hw2
  iintro Hw2
  iapply (put_rule c 0 1)
  isplitl [Ha1]; · iexact Ha1
  isplitl [Hs1]; · iexact Hs1
  rw [show halfProd 1 (hidden (xin m ρ l.val c) (winV m l c)) (woutV m l c) = accS m ρ (st l 0) 1 c from (accS_st m ρ l 0 1 c).symm]
  iintro ⟨Ha1, Hs1⟩
  iapply (sendTo_rule m ρ c (d 1) (st l 0) 0 1 (by rw [hd, kOf_st]) (par_st0 l))
  isplitr; · iexact HR
  isplitl [HO]; · iexact HO
  isplitl [HU1]; · iexact HU1
  isplitl [HL1]; · iexact HL1
  isplitl [Hs1]; · iexact Hs1
  iintro ⟨HO, HF1⟩
  iapply Hk
  isplitl [HO]; · iexact HO
  isplitl [HRr]; · iexact HRr
  isplitl [Hw1 Hz2 Hw2 HA2]
  · unfold weighed
    isplitl [Hw1]; · iexact Hw1
    isplitl [Hz2]; · iexact Hz2
    isplitl [Hw2]; · iapply (held_some c woutM (woutR l)); iexact Hw2
    iexact HA2
  isplitr [HL]
  · unfold between
    isplitl [HF0 Ha0 Ha0' Hs0']
    · isplitl [HF0]; · iexact HF0
      isplitl [Ha0]; · iexact Ha0
      isplitl [Ha0']; · iexact Ha0'
      iexact Hs0'
    isplitl [HF1]; · iexact HF1
    isplitl [Ha1]; · iexact Ha1
    isplitl [Ha1']; · iexact Ha1'
    iexact Hs1'
  iexact HL

/-- Two halves' step inside a layer. -/
theorem mids_rule (c : Dev nD) (l : Fin 3) (k k' : Fin 4) (hk : k'.val = k.val + 1) (i i' : Fin 2)
    (hi : Fin.ofNat 2 (st l k).val = i) (hi' : Fin.ofNat 2 (st l k').val = i') (d d' : Dev nD) (hd : d = prt k' c) (hd' : d' = prt k' c) (p : P F) :
    iprop(recs m ρ ∗ ow c (Og c (2 * (st l k').val)) ∗ (between m ρ (st l k) i i' 0 c ∗ between m ρ (st l k) i i' 1 c)
        ∗ (unsent (st l k') 0 c ∗ unsent (st l k') 1 c) ∗ (landing (st l k') 0 c ∗ landing (st l k') 1 c)
        ∗ ((ow c (Og c (2 * (st l k').val + 2)) ∗ (done (st l k) 0 c ∗ done (st l k) 1 c)
            ∗ (between m ρ (st l k') i' i 0 c ∗ between m ρ (st l k') i' i 1 c)) -∗ wpc c p Q))
      ⊢ wpc c (mid (st l k) (st l k') i i' 0 d (mid (st l k) (st l k') i i' 1 d' p)) Q := by
  have hs : (st l k').val = (st l k).val + 1 := by show 4 * l.val + k'.val = 4 * l.val + k.val + 1; omega
  iintro ⟨#HR, HO, ⟨Hb0, Hb1⟩, ⟨HU0, HU1⟩, ⟨HL0, HL1⟩, Hk⟩
  iapply (mid_rule m ρ c d (st l k) (st l k') i i' 0 (by rw [hd, kOf_st]) hs hi hi' (accS_succ m ρ l k k' hk 0 c))
  isplitr; · iexact HR
  isplitl [HO]; · iexact HO
  isplitl [Hb0]; · iexact Hb0
  isplitl [HU0]; · iexact HU0
  isplitl [HL0]; · iexact HL0
  iintro ⟨HO, HD0, Hb0⟩
  iapply (mid_rule m ρ c d' (st l k) (st l k') i i' 1 (by rw [hd', kOf_st]) hs hi hi' (accS_succ m ρ l k k' hk 1 c))
  isplitr; · iexact HR
  isplitl [HO]; · iexact HO
  isplitl [Hb1]; · iexact Hb1
  isplitl [HU1]; · iexact HU1
  isplitl [HL1]; · iexact HL1
  iintro ⟨HO, HD1, Hb1⟩
  iapply Hk
  isplitl [HO]; · iexact HO
  isplitl [HD0 HD1]
  · isplitl [HD0]; · iexact HD0
    iexact HD1
  isplitl [Hb0]; · iexact Hb0
  iexact Hb1

/-- A layer: its products, the four steps, the last into a block. -/
theorem layer_rule (c : Dev nD) (l : Fin 3) (d : Fin 2 → Dev nD) (hd : ∀ i, d i = prt 0 c) (d' : Fin 6 → Dev nD)
    (hd' : ∀ i, d' i = prt ((![1, 1, 2, 2, 3, 3] : Fin 6 → Fin 4) i) c) (bar : P F → P F) (B R : sProp 𝕄)
    (hbar : ∀ k : P F, iprop(recs m ρ ∗ ow c (Og c (2 * (st l 0).val)) ∗ B
        ∗ ((ow c (Og c (2 * (st l 0).val)) ∗ landings l c ∗ R) -∗ wpc c k Q)) ⊢ wpc c (bar k) Q)
    (M : Memref sig .tc .vmem S64x1024 .f32) (g : FVec F S64x512 .f32 → FVec F S64x512 .f32) (k : P F) :
    iprop(recs m ρ ∗ ow c (Og c (2 * (st l 0).val)) ∗ B ∗ weights l c ∗ unsents l c
        ∗ (free 0 1 0 c ∗ free 0 1 1 c) ∗ (some c M (halfR 0) ∗ some c M (halfR 1))
        ∗ ((ow c (Og c (2 * (st l 3).val + 2)) ∗ R ∗ weighed m l c ∗ dones l c
            ∗ (free 0 1 0 c ∗ free 0 1 1 c)
            ∗ (held c M (halfR 0) (g (sumL m ρ l 0 c)) ∗ held c M (halfR 1) (g (sumL m ρ l 1 c)))) -∗ wpc c k Q))
      ⊢ wpc c (products l (st l 0) (xin m ρ l.val c) d bar (steps (st l 0) (st l 1) (st l 2) (st l 3) d' (fin M g) k)) Q := by
  unfold unsents
  rw [all8_eq]
  iintro ⟨#HR, HO, HB, HW, ⟨U00, U01, U10, U11, U20, U21, U30, U31⟩, HZ, ⟨HM0, HM1⟩, Hk⟩
  iapply (products_rule m ρ c l d hd bar B R hbar)
  isplitr; · iexact HR
  isplitl [HO]; · iexact HO
  isplitl [HB]; · iexact HB
  isplitl [HW]; · iexact HW
  isplitl [U00 U01]
  · isplitl [U00]; · iexact U00
    iexact U01
  isplitl [HZ]; · iexact HZ
  iintro ⟨HO, HRr, HW, HB, L10, L11, L20, L21, L30, L31⟩
  unfold steps
  iapply (mids_rule m ρ c l 0 1 rfl 0 1 (par_st0 l) (par_st1 l) (d' 0) (d' 1) (hd' 0) (hd' 1))
  isplitr; · iexact HR
  isplitl [HO]; · iexact HO
  isplitl [HB]; · iexact HB
  isplitl [U10 U11]
  · isplitl [U10]; · iexact U10
    iexact U11
  isplitl [L10 L11]
  · isplitl [L10]; · iexact L10
    iexact L11
  iintro ⟨HO, ⟨D00, D01⟩, HB⟩
  iapply (mids_rule m ρ c l 1 2 rfl 1 0 (par_st1 l) (par_st2 l) (d' 2) (d' 3) (hd' 2) (hd' 3))
  isplitr; · iexact HR
  isplitl [HO]; · iexact HO
  isplitl [HB]; · iexact HB
  isplitl [U20 U21]
  · isplitl [U20]; · iexact U20
    iexact U21
  isplitl [L20 L21]
  · isplitl [L20]; · iexact L20
    iexact L21
  iintro ⟨HO, ⟨D10, D11⟩, HB⟩
  iapply (mids_rule m ρ c l 2 3 rfl 0 1 (par_st2 l) (par_st3 l) (d' 4) (d' 5) (hd' 4) (hd' 5))
  isplitr; · iexact HR
  isplitl [HO]; · iexact HO
  isplitl [HB]; · iexact HB
  isplitl [U30 U31]
  · isplitl [U30]; · iexact U30
    iexact U31
  isplitl [L30 L31]
  · isplitl [L30]; · iexact L30
    iexact L31
  iintro ⟨HO, ⟨D20, D21⟩, ⟨HB0, HB1⟩⟩
  iapply (fin_rule m ρ c M g (st l 3) 0 (2 * (st l 3).val + 2) (by omega) (par_st3 l))
  isplitr; · iexact HR
  isplitl [HO]; · iexact HO
  isplitl [HB0]; · iexact HB0
  isplitl [HM0]; · iexact HM0
  iintro ⟨HO, D30, HZ0, HM0⟩
  iapply (fin_rule m ρ c M g (st l 3) 1 (2 * (st l 3).val + 2) (by omega) (par_st3 l))
  isplitr; · iexact HR
  isplitl [HO]; · iexact HO
  isplitl [HB1]; · iexact HB1
  isplitl [HM1]; · iexact HM1
  iintro ⟨HO, D31, HZ1, HM1⟩
  rw [nextS_st, nextS_st]
  iapply Hk
  isplitl [HO]; · iexact HO
  isplitl [HRr]; · iexact HRr
  isplitl [HW]; · iexact HW
  isplitl [D00 D01 D10 D11 D20 D21 D30 D31]
  · unfold dones
    rw [all8_eq]
    isplitl [D00]; · iexact D00
    isplitl [D01]; · iexact D01
    isplitl [D10]; · iexact D10
    isplitl [D11]; · iexact D11
    isplitl [D20]; · iexact D20
    isplitl [D21]; · iexact D21
    isplitl [D30]; · iexact D30
    iexact D31
  isplitl [HZ0 HZ1]
  · isplitl [HZ0]; · iexact HZ0
    iexact HZ1
  isplitl [HM0]; · iexact HM0
  iexact HM1

end Cert.KernelIdeal.Run

end
-- ==== Proof.Slots.lean ====
/-
The buffers and their slots: a buffer held whole is held slot by slot, and back; two halves that are held make up a block.
-/
module

public import proofs.«01_k».proof.Proof.Steps
public import Idealize.ShloMosaic.Lib.Ring

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

variable {Q : PUnit.{1} → sProp (MT nD τ sig Unit (Elt F) ℕ UU ℕ)}

/-! ## Families -/

omit [FloatOps F] in
theorem fin3_eq (Φ : Fin 3 → sProp 𝕄) : bigSep Finset.univ Φ = iprop(Φ 0 ∗ Φ 1 ∗ Φ 2) :=
  bigSep_univ_eq_bigSepL [0, 1, 2] (by decide) (by decide) Φ
omit [FloatOps F] in
theorem fin4_eq (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem fin2_eq (Φ : Fin 2 → sProp 𝕄) : bigSep Finset.univ Φ = iprop(Φ 0 ∗ Φ 1) :=
  bigSep_univ_eq_bigSepL [0, 1] (by decide) (by decide) Φ
omit [FloatOps F] in
theorem fin22_eq (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

/-- Something for each step of the exchange and half. -/
def allS (Φ : Fin 12 → Fin 2 → sProp 𝕄) : sProp 𝕄 := bigSep Finset.univ fun p : Fin 12 × Fin 2 => Φ p.1 p.2

set_option backward.proofsInPublic true in
/-- A layer, a step of it: a step of the exchange. -/
def stEquiv : Fin 3 × Fin 4 ≃ Fin 12 where
  toFun p := st p.1 p.2
  invFun s := (⟨s.val / 4, by omega⟩, ⟨s.val % 4, by omega⟩)
  left_inv := by decide
  right_inv := by decide

omit [FloatOps F] in
/-- Layer by layer, -/
theorem allS_layers (Φ : Fin 12 → Fin 2 → sProp 𝕄) :
    allS Φ = bigSep Finset.univ fun l : Fin 3 => all8 fun k h => Φ (st l k) h := by
  unfold allS all8
  rw [bigSep_univ_prod, bigSep_univ_equiv stEquiv, bigSep_univ_prod]
  refine bigSep_congr fun l _ => ?_
  rw [bigSep_univ_prod]
  rfl

omit [FloatOps F] in
/-- or partner by partner. -/
theorem allS_partners (Φ : Fin 12 → Fin 2 → sProp 𝕄) :
    allS Φ = bigSep Finset.univ fun k : Fin 4 => bigSep Finset.univ fun lh : Fin 3 × Fin 2 => Φ (st lh.1 k) lh.2 := by
  rw [allS_layers]
  unfold all8
  rw [bigSep_congr fun l _ => bigSep_univ_prod (fun p : Fin 4 × Fin 2 => Φ (st l p.1) p.2), bigSep_univ_comm]
  exact bigSep_congr fun k _ => (bigSep_univ_prod (fun lh : Fin 3 × Fin 2 => Φ (st lh.1 k) lh.2)).symm

omit [FloatOps F] in
theorem allS_sep (Φ Ψ : Fin 12 → Fin 2 → sProp 𝕄) : allS (fun s h => iprop(Φ s h ∗ Ψ s h)) = iprop(allS Φ ∗ allS Ψ) := bigSep_sep' _ _ _

/-! ## Buffers and their slots -/

/-- The elements of a buffer under a rectangle. -/
def cells {sp : Space} {s : Shape} {e : EltTy} (c : Dev nD) (M : Memref sig .tc sp s e) (r : Rect s) :
    Finset (Idx (M.view.loc (c : Thread nD τ))) := (M.access r).set

section Slots
variable {I : Type} [Fintype I] [DecidableEq I] {sp : Space} {s : Shape} {e : EltTy} (c : Dev nD) (M : Memref sig .tc sp s e) (R : I → Rect s)
  (hd : ∀ i j, i ≠ j → Disjoint (cells c M (R i)) (cells c M (R j)))
  (hc : ∀ x, ∃ i, x ∈ cells c M (R i))

omit [DecidableEq I] in
include hc in
theorem slots_cover : Finset.univ.biUnion (fun i => cells c M (R i)) = Finset.univ := by
  ext x
  simp only [Finset.mem_biUnion, Finset.mem_univ, true_and, iff_true]
  exact hc x

omit [Fintype I] [DecidableEq I] in
theorem some_intro (r : Rect s) (f : Buf (Elt F) (M.view.loc (c : Thread nD τ))) :
    (M.view.loc (c : Thread nD τ) ↦[cells c M r]{fullShare} f : sProp 𝕄) ⊢ some c M r := by
  unfold some cells
  iintro H
  iexists f
  iexact H

include hd hc in
theorem slots_split : iprop(∃ f : Buf (Elt F) (M.view.loc (c : Thread nD τ)), M.view.loc (c : Thread nD τ) ↦{fullShare} f)
    ⊢ (bigSep Finset.univ fun i => some c M (R i) : sProp 𝕄) := by
  have step (f : Buf (Elt F) (M.view.loc (c : Thread nD τ))) : (M.view.loc (c : Thread nD τ) ↦{fullShare} f : sProp 𝕄)
      ⊢ bigSep Finset.univ fun i => some c M (R i) :=
    (Entails.of_eq (Idealize.ShloMosaic.Ring.pointsTo_blocks (fun i => cells c M (R i)) hd (slots_cover c M R hc) f)).trans
      (bigSep_mono fun i _ => some_intro c M (R i) f)
  iintro ⟨%f, H⟩
  iapply (step f)
  iexact H

include hd hc in
theorem slots_join (f₀ : Buf (Elt F) (M.view.loc (c : Thread nD τ))) : (bigSep Finset.univ fun i => some c M (R i) : sProp 𝕄)
    ⊢ iprop(∃ f : Buf (Elt F) (M.view.loc (c : Thread nD τ)), M.view.loc (c : Thread nD τ) ↦{fullShare} f) :=
  Idealize.ShloMosaic.Ring.pointsTo_blocks_join_exists (fun i => cells c M (R i)) hd (slots_cover c M R hc) f₀

end Slots

/-! ### The slots of each buffer are apart and cover it -/

theorem apart_slot (p q : Fin 2 × Fin 2) (h : p ≠ q) : Disjoint (slotR p.1 p.2).set (slotR q.1 q.2).set := by
  rw [Finset.disjoint_left]
  intro i hi hj
  have a0 := Rect.mem_set_unit.mp hi 0; have b0 := Rect.mem_set_unit.mp hj 0
  have a1 := Rect.mem_set_unit.mp hi 1; have b1 := Rect.mem_set_unit.mp hj 1
  simp only [Matrix.cons_val_zero, Matrix.cons_val_one] at a0 a1 b0 b1
  have s0 : S1x1x64x512.size 0 = 1 := rfl
  have s1 : S1x1x64x512.size 1 = 1 := rfl
  exact h (Prod.ext (Fin.ext (by omega)) (Fin.ext (by omega)))
theorem apart_comm (p q : Fin 12 × Fin 2) (h : p ≠ q) : Disjoint (commR p.1 p.2).set (commR q.1 q.2).set := by
  rw [Finset.disjoint_left]
  intro i hi hj
  have a0 := Rect.mem_set_unit.mp hi 0; have b0 := Rect.mem_set_unit.mp hj 0
  have a1 := Rect.mem_set_unit.mp hi 1; have b1 := Rect.mem_set_unit.mp hj 1
  simp only [Matrix.cons_val_zero, Matrix.cons_val_one] at a0 a1 b0 b1
  have s0 : S1x1x64x512.size 0 = 1 := rfl
  have s1 : S1x1x64x512.size 1 = 1 := rfl
  exact h (Prod.ext (Fin.ext (by omega)) (Fin.ext (by omega)))
theorem apart_win (p q : Fin 3) (h : p ≠ q) : Disjoint (winR p).set (winR q).set := by
  rw [Finset.disjoint_left]
  intro i hi hj
  have a0 := Rect.mem_set_unit.mp hi 0; have b0 := Rect.mem_set_unit.mp hj 0
  simp only [Matrix.cons_val_zero] at a0 b0
  have s0 : S1x1024x2048.size 0 = 1 := rfl
  exact h (Fin.ext (by omega))
theorem apart_wout (p q : Fin 3) (h : p ≠ q) : Disjoint (woutR p).set (woutR q).set := by
  rw [Finset.disjoint_left]
  intro i hi hj
  have a0 := Rect.mem_set_unit.mp hi 0; have b0 := Rect.mem_set_unit.mp hj 0
  simp only [Matrix.cons_val_zero] at a0 b0
  have s0 : S1x2048x1024.size 0 = 1 := rfl
  exact h (Fin.ext (by omega))
theorem apart_half (p q : Fin 2) (h : p ≠ q) : Disjoint (halfR p).set (halfR q).set := by
  rw [Finset.disjoint_left]
  intro i hi hj
  have a0 : 512 * p.val ≤ (i 1).val ∧ (i 1).val < 512 * p.val + 512 := Rect.mem_set_unit.mp hi 1
  have b0 : 512 * q.val ≤ (i 1).val ∧ (i 1).val < 512 * q.val + 512 := Rect.mem_set_unit.mp hj 1
  exact h (Fin.ext (by omega))

theorem cover_slot (i : S2x2x64x512.Idx) : ∃ p : Fin 2 × Fin 2, i ∈ (slotR p.1 p.2).set := by
  refine ⟨(⟨(i 0).val, (i 0).isLt⟩, ⟨(i 1).val, (i 1).isLt⟩), Rect.mem_set_unit.mpr fun a => ?_⟩
  have := (i a).isLt
  fin_cases a
  · exact ⟨le_rfl, Nat.lt_succ_self _⟩
  · exact ⟨le_rfl, Nat.lt_succ_self _⟩
  · exact ⟨Nat.zero_le _, this⟩
  · exact ⟨Nat.zero_le _, this⟩
theorem cover_comm (i : S12x2x64x512.Idx) : ∃ p : Fin 12 × Fin 2, i ∈ (commR p.1 p.2).set := by
  refine ⟨(⟨(i 0).val, (i 0).isLt⟩, ⟨(i 1).val, (i 1).isLt⟩), Rect.mem_set_unit.mpr fun a => ?_⟩
  have := (i a).isLt
  fin_cases a
  · exact ⟨le_rfl, Nat.lt_succ_self _⟩
  · exact ⟨le_rfl, Nat.lt_succ_self _⟩
  · exact ⟨Nat.zero_le _, this⟩
  · exact ⟨Nat.zero_le _, this⟩
theorem cover_win (i : S3x1024x2048.Idx) : ∃ p : Fin 3, i ∈ (winR p).set := by
  refine ⟨⟨(i 0).val, (i 0).isLt⟩, Rect.mem_set_unit.mpr fun a => ?_⟩
  have := (i a).isLt
  fin_cases a
  · exact ⟨le_rfl, Nat.lt_succ_self _⟩
  · exact ⟨Nat.zero_le _, this⟩
  · exact ⟨Nat.zero_le _, this⟩
theorem cover_wout (i : S3x2048x1024.Idx) : ∃ p : Fin 3, i ∈ (woutR p).set := by
  refine ⟨⟨(i 0).val, (i 0).isLt⟩, Rect.mem_set_unit.mpr fun a => ?_⟩
  have := (i a).isLt
  fin_cases a
  · exact ⟨le_rfl, Nat.lt_succ_self _⟩
  · exact ⟨Nat.zero_le _, this⟩
  · exact ⟨Nat.zero_le _, this⟩

theorem half_lt (i : S64x1024.Idx) : (i 1).val / 512 < 2 := by
  have := (i 1).isLt
  change (i 1).val < 1024 at this
  omega
theorem mem_half (i : S64x1024.Idx) : i ∈ (halfR ⟨(i 1).val / 512, half_lt i⟩).set := by
  refine Rect.mem_set_unit.mpr fun a => ?_
  have := (i a).isLt
  fin_cases a
  · exact ⟨Nat.zero_le _, this⟩
  · show 512 * ((i 1).val / 512) ≤ (i 1).val ∧ (i 1).val < 512 * ((i 1).val / 512) + 512
    omega
theorem cover_half (i : S64x1024.Idx) : ∃ p : Fin 2, i ∈ (halfR p).set := by
  exact ⟨_, mem_half i⟩

/-- A block whose halves read as `p` is the two side by side. -/
theorem eq_join (g : Vec F S64x1024 .f32) (p : Fin 2 → FVec F S64x512 .f32) (h : ∀ b y, g ((halfR b).emb y) = p b y) : g = join p := by
  funext i
  obtain ⟨y, -, hy⟩ := Finset.mem_map.mp (by rw [Rect.map_emb_univ]; exact mem_half i)
  have e := h _ y
  rw [hy] at e
  rw [e]
  unfold join
  refine congrArg _ (funext fun a => ?_)
  have h0 : ((halfR ⟨(i 1).val / 512, half_lt i⟩).emb y 0).val = (i 0).val := by rw [hy]
  have h1 : ((halfR ⟨(i 1).val / 512, half_lt i⟩).emb y 1).val = (i 1).val := by rw [hy]
  have e0 : ((halfR ⟨(i 1).val / 512, half_lt i⟩).emb y 0).val = 0 + 1 * (y 0).val := rfl
  have e1 : ((halfR ⟨(i 1).val / 512, half_lt i⟩).emb y 1).val = 512 * ((i 1).val / 512) + 1 * (y 1).val := rfl
  fin_cases a
  · refine Fin.ext ?_
    show (y 0).val = (i 0).val
    omega
  · refine Fin.ext ?_
    show (y 1).val = (i 1).val % 512
    omega

end Cert.KernelIdeal.Run

end
-- ==== Proof.Pieces.lean ====
/-
What stands around the layers: the scratch buffers cut into their slots and joined again, the fetching of the weights,
the signals to the partners and the barrier.
-/
module

public import proofs.«01_k».proof.Proof.Slots

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

variable {Q : PUnit.{1} → sProp (MT nD τ sig Unit (Elt F) ℕ UU ℕ)}

/-! ## The buffers cut and joined -/

/-- The kernel's scratch buffers, each whole at some contents. -/
def scratch (c : Dev nD) : sProp 𝕄 :=
  iprop((∃ f : Buf (Elt F) (winM.view.loc (c : Thread nD τ)), winM.view.loc (c : Thread nD τ) ↦{fullShare} f)
    ∗ (∃ f : Buf (Elt F) (woutM.view.loc (c : Thread nD τ)), woutM.view.loc (c : Thread nD τ) ↦{fullShare} f)
    ∗ (∃ f : Buf (Elt F) (xbM.view.loc (c : Thread nD τ)), xbM.view.loc (c : Thread nD τ) ↦{fullShare} f)
    ∗ (∃ f : Buf (Elt F) (accM.view.loc (c : Thread nD τ)), accM.view.loc (c : Thread nD τ) ↦{fullShare} f)
    ∗ (∃ f : Buf (Elt F) (sendM.view.loc (c : Thread nD τ)), sendM.view.loc (c : Thread nD τ) ↦{fullShare} f)
    ∗ (∃ f : Buf (Elt F) (commM.view.loc (c : Thread nD τ)), commM.view.loc (c : Thread nD τ) ↦{fullShare} f))

/-- A device's landing slots. -/
def comms (c : Dev nD) : sProp 𝕄 := allS fun s h => some c commM (commR s h)
/-- Its slots for the weights. -/
def wslots (l : Fin 3) (c : Dev nD) : sProp 𝕄 := iprop(some c winM (winR l) ∗ some c woutM (woutR l))

theorem cells_win (c : Dev nD) (l : Fin 3) : cells c winM (winR l) = (winR l).set := View.set_slice_whole _ _
theorem cells_wout (c : Dev nD) (l : Fin 3) : cells c woutM (woutR l) = (woutR l).set := View.set_slice_whole _ _
theorem cells_acc (c : Dev nD) (i h : Fin 2) : cells c accM (slotR i h) = (slotR i h).set := View.set_slice_whole _ _
theorem cells_send (c : Dev nD) (i h : Fin 2) : cells c sendM (slotR i h) = (slotR i h).set := View.set_slice_whole _ _
theorem cells_comm (c : Dev nD) (s : Fin 12) (h : Fin 2) : cells c commM (commR s h) = (commR s h).set := View.set_slice_whole _ _
theorem cells_xb (c : Dev nD) (h : Fin 2) : cells c xbM (halfR h) = (halfR h).set := View.set_slice_whole _ _
theorem cells_o (c : Dev nD) (h : Fin 2) : cells c oM (halfR h) = (halfR h).set := View.set_slice_whole _ _

theorem full_xb (c : Dev nD) (x) : ∃ p, x ∈ cells c xbM (halfR p) := by
  obtain ⟨p, hp⟩ := cover_half x
  exact ⟨p, by rw [cells_xb]; exact hp⟩
theorem full_o (c : Dev nD) (x) : ∃ p, x ∈ cells c oM (halfR p) := by
  obtain ⟨p, hp⟩ := cover_half x
  exact ⟨p, by rw [cells_o]; exact hp⟩
theorem full_acc (c : Dev nD) (x) : ∃ p : Fin 2 × Fin 2, x ∈ cells c accM (slotR p.1 p.2) := by
  obtain ⟨p, hp⟩ := cover_slot x
  exact ⟨p, by rw [cells_acc]; exact hp⟩
theorem full_send (c : Dev nD) (x) : ∃ p : Fin 2 × Fin 2, x ∈ cells c sendM (slotR p.1 p.2) := by
  obtain ⟨p, hp⟩ := cover_slot x
  exact ⟨p, by rw [cells_send]; exact hp⟩
theorem full_comm (c : Dev nD) (x) : ∃ p : Fin 12 × Fin 2, x ∈ cells c commM (commR p.1 p.2) := by
  obtain ⟨p, hp⟩ := cover_comm x
  exact ⟨p, by rw [cells_comm]; exact hp⟩
theorem full_win (c : Dev nD) (x) : ∃ p, x ∈ cells c winM (winR p) := by
  obtain ⟨p, hp⟩ := cover_win x
  exact ⟨p, by rw [cells_win]; exact hp⟩
theorem full_wout (c : Dev nD) (x) : ∃ p, x ∈ cells c woutM (woutR p) := by
  obtain ⟨p, hp⟩ := cover_wout x
  exact ⟨p, by rw [cells_wout]; exact hp⟩

theorem xb_split (c : Dev nD) : iprop(∃ f : Buf (Elt F) (xbM.view.loc (c : Thread nD τ)), xbM.view.loc (c : Thread nD τ) ↦{fullShare} f)
    ⊢ (iprop(some c xbM (halfR 0) ∗ some c xbM (halfR 1)) : sProp 𝕄) := by
  rw [← fin2_eq (fun h => (some c xbM (halfR h) : sProp 𝕄))]
  exact slots_split c xbM halfR (fun i j h => by rw [cells_xb, cells_xb]; exact apart_half i j h) (full_xb c)
theorem o_split (c : Dev nD) : iprop(∃ f : Buf (Elt F) (oM.view.loc (c : Thread nD τ)), oM.view.loc (c : Thread nD τ) ↦{fullShare} f)
    ⊢ (iprop(some c oM (halfR 0) ∗ some c oM (halfR 1)) : sProp 𝕄) := by
  rw [← fin2_eq (fun h => (some c oM (halfR h) : sProp 𝕄))]
  exact slots_split c oM halfR (fun i j h => by rw [cells_o, cells_o]; exact apart_half i j h) (full_o c)

/-- Two halves held join to the block. -/
theorem held_join (c : Dev nD) (M : Memref sig .tc .vmem S64x1024 .f32) (p : Fin 2 → FVec F S64x512 .f32)
    (hd : ∀ i j, i ≠ j → Disjoint (cells c M (halfR i)) (cells c M (halfR j)))
    (hc : ∀ x, ∃ h, x ∈ cells c M (halfR h)) (f₀ : Buf (Elt F) (M.view.loc (c : Thread nD τ))) :
    iprop(held c M (halfR 0) (p 0) ∗ held c M (halfR 1) (p 1))
      ⊢ (iprop(∃ f : Buf (Elt F) (M.view.loc (c : Thread nD τ)), ⌜M.view.read (Elt F) f = join p⌝ ∗ M.view.loc (c : Thread nD τ) ↦{fullShare} f) : sProp 𝕄) := by
  have step (fs : Fin 2 → Buf (Elt F) (M.view.loc (c : Thread nD τ))) :
      (bigSep Finset.univ fun h => (M.view.loc (c : Thread nD τ) ↦[cells c M (halfR h)]{fullShare} fs h : sProp 𝕄))
        ⊢ iprop(∃ g, ⌜∀ t ∈ Finset.univ, ∀ i ∈ cells c M (halfR t), g i = fs t i⌝ ∗ M.view.loc (c : Thread nD τ) ↦{fullShare} g) := by
    rw [← slots_cover c M halfR hc]
    exact pointsTo_biUnion_join Finset.univ (fun h => cells c M (halfR h)) fs f₀ (fun i _ j _ h => hd i j h)
  unfold held
  iintro ⟨⟨%f, %hf, H0⟩, ⟨%g, %hg, H1⟩⟩
  ihave H := (step ![f, g]) $$ [H0 H1]
  · rw [fin2_eq]
    isplitl [H0]; · iexact H0
    iexact H1
  icases H with ⟨%w, %hw, H⟩
  iexists w
  isplitr
  · ipureintro
    refine eq_join _ p fun b y => ?_
    have e : M.view.readAt (Elt F) (halfR b).toLoadRect w = M.view.readAt (Elt F) (halfR b).toLoadRect (![f, g] b) :=
      View.read_congr (v := M.access (halfR b)) fun i hi => hw b (Finset.mem_univ b) i hi
    have e' : M.view.readAt (Elt F) (halfR b).toLoadRect (![f, g] b) = p b := by
      fin_cases b
      · exact hf
      · exact hg
    exact (congrFun e y).trans (congrFun e' y)
  iexact H

theorem scratch_split (c : Dev nD) : scratch c ⊢ (iprop((bigSep Finset.univ fun l : Fin 3 => wslots l c)
    ∗ (some c xbM (halfR 0) ∗ some c xbM (halfR 1)) ∗ (free 0 1 0 c ∗ free 0 1 1 c) ∗ comms c) : sProp 𝕄) := by
  unfold scratch wslots
  rw [bigSep_sep']
  iintro ⟨H0, H1, H2, H3, H4, H5⟩
  isplitl [H0 H1]
  · isplitl [H0]
    · iapply (slots_split c winM winR (fun i j h => by rw [cells_win, cells_win]; exact apart_win i j h) (full_win c))
      iexact H0
    iapply (slots_split c woutM woutR (fun i j h => by rw [cells_wout, cells_wout]; exact apart_wout i j h) (full_wout c))
    iexact H1
  isplitl [H2]
  · iapply (xb_split c); iexact H2
  isplitl [H3 H4]
  · ihave H3 := (slots_split c accM (fun p : Fin 2 × Fin 2 => slotR p.1 p.2)
      (fun i j h => by rw [cells_acc, cells_acc]; exact apart_slot i j h) (full_acc c)) $$ H3
    ihave H4 := (slots_split c sendM (fun p : Fin 2 × Fin 2 => slotR p.1 p.2)
      (fun i j h => by rw [cells_send, cells_send]; exact apart_slot i j h) (full_send c)) $$ H4
    ihave H3 := (Entails.of_eq (fin22_eq _)) $$ H3
    ihave H4 := (Entails.of_eq (fin22_eq _)) $$ H4
    icases H3 with ⟨A00, A01, A10, A11⟩
    icases H4 with ⟨S00, S01, S10, S11⟩
    unfold free
    isplitl [A00 A10 S00 S10]
    · isplitl [A00 S00]
      · isplitl [A00]; · iexact A00
        iexact S00
      isplitl [A10]; · iexact A10
      iexact S10
    isplitl [A01 S01]
    · isplitl [A01]; · iexact A01
      iexact S01
    isplitl [A11]; · iexact A11
    iexact S11
  unfold comms allS
  iapply (slots_split c commM (fun p : Fin 12 × Fin 2 => commR p.1 p.2)
    (fun i j h => by rw [cells_comm, cells_comm]; exact apart_comm i j h) (full_comm c))
  iexact H5

include m in
theorem scratch_join (c : Dev nD) : (iprop((bigSep Finset.univ fun l : Fin 3 => wslots l c)
    ∗ (∃ f : Buf (Elt F) (xbM.view.loc (c : Thread nD τ)), xbM.view.loc (c : Thread nD τ) ↦{fullShare} f)
    ∗ (free 0 1 0 c ∗ free 0 1 1 c) ∗ comms c) : sProp 𝕄) ⊢ scratch c := by
  unfold scratch wslots free comms allS
  rw [bigSep_sep']
  iintro ⟨⟨H0, H1⟩, H2, ⟨⟨⟨A00, S00⟩, ⟨A10, S10⟩⟩, ⟨⟨A01, S01⟩, ⟨A11, S11⟩⟩⟩, H5⟩
  isplitl [H0]
  · iapply (slots_join c winM winR (fun i j h => by rw [cells_win, cells_win]; exact apart_win i j h) (full_win c) (m (winM.view.loc (c : Thread nD τ))))
    iexact H0
  isplitl [H1]
  · iapply (slots_join c woutM woutR (fun i j h => by rw [cells_wout, cells_wout]; exact apart_wout i j h) (full_wout c) (m (woutM.view.loc (c : Thread nD τ))))
    iexact H1
  isplitl [H2]; · iexact H2
  isplitl [A00 A01 A10 A11]
  · iapply (slots_join c accM (fun p : Fin 2 × Fin 2 => slotR p.1 p.2)
      (fun i j h => by rw [cells_acc, cells_acc]; exact apart_slot i j h) (full_acc c) (m (accM.view.loc (c : Thread nD τ))))
    rw [fin22_eq]
    isplitl [A00]; · iexact A00
    isplitl [A01]; · iexact A01
    isplitl [A10]; · iexact A10
    iexact A11
  isplitl [S00 S01 S10 S11]
  · iapply (slots_join c sendM (fun p : Fin 2 × Fin 2 => slotR p.1 p.2)
      (fun i j h => by rw [cells_send, cells_send]; exact apart_slot i j h) (full_send c) (m (sendM.view.loc (c : Thread nD τ))))
    rw [fin22_eq]
    isplitl [S00]; · iexact S00
    isplitl [S01]; · iexact S01
    isplitl [S10]; · iexact S10
    iexact S11
  iapply (slots_join c commM (fun p : Fin 12 × Fin 2 => commR p.1 p.2)
    (fun i j h => by rw [cells_comm, cells_comm]; exact apart_comm i j h) (full_comm c) (m (commM.view.loc (c : Thread nD τ))))
  iexact H5

/-! ## Fetching the weights -/

/-- What a device holds for a layer's weights before their copies are started. -/
def unfetched (l : Fin 3) (c : Dev nD) : sProp 𝕄 :=
  iprop((arrHeld m c (winA l) ∗ dutyTok ER (winCell l c) 0 (0 : Fin 4) ∗ atPos ER (winCell l c) 0 ∅ 0)
    ∗ (arrHeld m c (woutA l) ∗ dutyTok ER (woutCell l c) 0 (0 : Fin 4) ∗ atPos ER (woutCell l c) 0 ∅ 0))

theorem fetch_rule (c : Dev nD) (l : Fin 3) (k : P F) :
    iprop(recs m ρ ∗ unfetched m l c ∗ wslots l c ∗ (weights l c -∗ wpc c k Q)) ⊢ wpc c (getWin l (getWout l k)) Q := by
  unfold unfetched wslots weights
  iintro ⟨#HR, ⟨⟨A1, T1, P1⟩, ⟨A2, T2, P2⟩⟩, ⟨W1, W2⟩, Hk⟩
  iapply (getWin_rule m ρ c l)
  isplitr; · iexact HR
  isplitl [A1]; · iexact A1
  isplitl [W1]; · iexact W1
  isplitl [T1]; · iexact T1
  iintro C1
  iapply (getWout_rule m ρ c l)
  isplitr; · iexact HR
  isplitl [A2]; · iexact A2
  isplitl [W2]; · iexact W2
  isplitl [T2]; · iexact T2
  iintro C2
  iapply Hk
  isplitl [C1 P1]
  · isplitl [C1]; · iexact C1
    iexact P1
  isplitl [C2]; · iexact C2
  iexact P2

/-! ## The barrier -/

/-- The landing slots a device hands to its partner of step `k`. -/
theorem own_comms (c : Dev nD) : comms c ⊢ (bigSep Finset.univ fun k => barPay (prt k c) k : sProp 𝕄) := by
  unfold comms
  rw [allS_partners]
  refine Entails.of_eq (bigSep_congr fun k _ => ?_)
  unfold barPay
  exact bigSep_congr fun lh _ => congrArg (fun x => some x commM (commR (st lh.1 k) lh.2)) (prt_prt k c).symm

/-- The landing slots its partners hand to it. -/
theorem partners_comms (c : Dev nD) : (bigSep Finset.univ fun k => barPay c k : sProp 𝕄) ⊢ iprop(landings 0 c ∗ landings 1 c ∗ landings 2 c) := by
  have e : (bigSep Finset.univ fun k => barPay c k : sProp 𝕄) = allS fun s h => landing s h c := by
    rw [allS_partners]
    refine bigSep_congr fun k _ => bigSep_congr fun lh _ => ?_
    unfold landing
    rw [kOf_st]
    rfl
  rw [e, allS_layers, fin3_eq]
  unfold landings
  exact BI.Entails.refl _

theorem signal_rule (c dst : Dev nD) (k : Fin 4) (n : ℕ) (hn : n + k.val = 3) (hd : dst = prt k c) (p : P F) :
    iprop(recs m ρ ∗ ow c (Ob c (n + 1)) ∗ dutyTok ER (barCell (prt k c)) 0 k ∗ barPay (prt k c) k
        ∗ (ow c (Ob c n) -∗ wpc c p Q)) ⊢ wpc c (.op (.semSignal (Dev.tc dst) barS 1) fun _ => p) Q := by
  subst hd
  unfold ow
  iintro ⟨#HR, ⟨%W, HO⟩, Ht, Hp, Hk⟩
  ihave Hr := (@rec_bar F _ m ρ (prt k c)) $$ HR
  unfold rec1
  icases Hr with ⟨⟨%κ, #HI⟩, #Hre⟩
  iapply (Rounds.wp_signal 𝒱₀ ER (sched m ρ) (c : Thread nD τ) none (dst := (prt k c : Thread nD τ)) (κ := κ) (d := k)
      (by rw [duties_of m ρ _ role_bar]; exact Finset.mem_univ k) ((amount_of m ρ _ role_bar k).trans (by decide)) () (Ob c n)
      (O₀ := Ob c (n + 1)) (by rw [Ob, show 3 - n = k.val by omega, Fin.ofNat_val_eq_self])) $$ [HO Ht Hp]
  · isplitr; · iexact HI
    isplitl [HO]; · iexact HO
    isplitl [Ht]; · iexact Ht
    isplitl [Hp]; · iapply (Entails.of_eq ((payload_of m ρ (prt k c) role_bar k).trans (show pay m ρ (prt k c) k .bar = barPay (prt k c) k from rfl)).symm); iexact Hp
    iexact Hre
  iintro HO
  iapply Hk
  iexists W; iexact HO

theorem signals_rule (c : Dev nD) (d : Fin 4 → Dev nD) (hd : ∀ k, d k = prt k c) (p : P F) :
    iprop(recs m ρ ∗ ow c (O₀ c) ∗ (bigSep Finset.univ fun k : Fin 4 => dutyTok ER (barCell (prt k c)) 0 k) ∗ comms c
        ∗ (ow c (Og c 0) -∗ wpc c p Q)) ⊢ wpc c (signals d p) Q := by
  unfold signals O₀
  iintro ⟨#HR, HO, HT, HC, Hk⟩
  ihave HC := (own_comms (F := F) c) $$ HC
  ihave HT := (Entails.of_eq (fin4_eq _)) $$ HT
  ihave HC := (Entails.of_eq (fin4_eq _)) $$ HC
  icases HT with ⟨T0, T1, T2, T3⟩
  icases HC with ⟨C0, C1, C2, C3⟩
  iapply (signal_rule m ρ c (d 0) 0 3 rfl (hd 0))
  isplitr; · iexact HR
  isplitl [HO]; · iexact HO
  isplitl [T0]; · iexact T0
  isplitl [C0]; · iexact C0
  iintro HO
  iapply (signal_rule m ρ c (d 1) 1 2 rfl (hd 1))
  isplitr; · iexact HR
  isplitl [HO]; · iexact HO
  isplitl [T1]; · iexact T1
  isplitl [C1]; · iexact C1
  iintro HO
  iapply (signal_rule m ρ c (d 2) 2 1 rfl (hd 2))
  isplitr; · iexact HR
  isplitl [HO]; · iexact HO
  isplitl [T2]; · iexact T2
  isplitl [C2]; · iexact C2
  iintro HO
  iapply (signal_rule m ρ c (d 3) 3 0 rfl (hd 3))
  isplitr; · iexact HR
  isplitl [HO]; · iexact HO
  isplitl [T3]; · iexact T3
  isplitl [C3]; · iexact C3
  iexact Hk

theorem barrier_rule (c : Dev nD) (k : P F) :
    iprop(recs m ρ ∗ ow c (Og c 0) ∗ (cred (tallyAt (barCell c) () 4) ∗ atPos ER (barCell c) 0 ∅ 0)
        ∗ ((ow c (Og c 0) ∗ landings 0 c ∗ (semVal (barCell c) 0 ∗ landings 1 c ∗ landings 2 c)) -∗ wpc c k Q)) ⊢ wpc c (barrier k) Q := by
  unfold barrier ow
  iintro ⟨#HR, ⟨%W, HO⟩, ⟨Hc, Hat⟩, Hk⟩
  ihave #HL := (@recs_lev F _ m ρ) $$ HR
  ihave Hr := (@rec_bar F _ m ρ c) $$ HR
  unfold rec1
  icases Hr with ⟨⟨%κ, #HI⟩, -⟩
  iapply (Rounds.wp_wait_rest_token 𝒱₀ ER (sched m ρ) (c : Thread nD τ) none (κ := κ) (sm := .reg barS) (k' := 4)
      (wpE_semWait_eq 𝒱₀ (c : Thread nD τ) none Set.univ) (Set.mem_univ _) () (O := Og c 0) (W := W) (R := 0) (m := 0) (T := ∅)
      (by rw [expect_bar])) $$ [Hc HO Hat]
  · isplitr; · iexact HI
    isplitl [Hc]; · iexact Hc
    isplitl [HO]; · iexact HO
    isplitr; · iapply (mayWait c (.reg barS) 1 (by rw [role_bar]; exact le_rfl) (Og c 0) (above c 0 1 (by omega))); iexact HL
    iexact Hat
  iintro ⟨HO, Hat, -, Hpay⟩
  ihave Hp := (Entails.of_eq (rest_bar m ρ c)) $$ Hpay
  ihave Hp := (partners_comms (F := F) c) $$ Hp
  icases Hp with ⟨L0, L1, L2⟩
  imod (Rounds.cell_close ER (sched m ρ) (Set.mem_univ κ) (fun h => h) (R := 0 + 1) (duties_later m ρ _)) $$ [Hat] with Hz
  · isplitr; · iexact HI
    iexact Hat
  iapply Hk
  isplitl [HO]; · iexists _; iexact HO
  isplitl [L0]; · iexact L0
  isplitl [Hz]; · iexact Hz
  isplitl [L1]; · iexact L1
  iexact L2

end Cert.KernelIdeal.Run

end
-- ==== Proof.Body.lean ====
/-
The body of a device: the weights are fetched, the partners signalled, the three layers run, and everything a device
held at the start it holds at the end, with the result in its block.
-/
module

public import proofs.«01_k».proof.Proof.Pieces

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

variable {Q : PUnit.{1} → sProp (MT nD τ sig Unit (Elt F) ℕ UU ℕ)}

/-- The body with its steps named by layer. -/
def bodyL : P F :=
  .op .deviceId fun d : Dev nD =>
  getWin 0 <| getWout 0 <| getWin 1 <| getWout 1 <| getWin 2 <| getWout 2 <|
  signals ![devs d 0, devs d 1, devs d 2, devs d 3] <|
  readFull xM fun x =>
  products 0 (st 0 0) (shapeCast S64x1024 x shapeCasts_S64x1024_S64x1024) ![devs d 4, devs d 5] barrier <|
  steps (st 0 0) (st 0 1) (st 0 2) (st 0 3) ![devs d 6, devs d 7, devs d 8, devs d 9, devs d 10, devs d 11] (fin xbM again) <|
  readFull xbM fun x =>
  products 1 (st 1 0) x ![devs d 12, devs d 13] (fun k => k) <|
  steps (st 1 0) (st 1 1) (st 1 2) (st 1 3) ![devs d 14, devs d 15, devs d 16, devs d 17, devs d 18, devs d 19] (fin xbM again) <|
  readFull xbM fun x =>
  products 2 (st 2 0) x ![devs d 20, devs d 21] (fun k => k) <|
  steps (st 2 0) (st 2 1) (st 2 2) (st 2 3) ![devs d 22, devs d 23, devs d 24, devs d 25, devs d 26, devs d 27] (fin oM fun p => p) <|
  .ret ⟨⟩

theorem body_layers : body (F := F) = bodyL := rfl

theorem dev_sig : ∀ (c : Dev nD) (k : Fin 4), (![devs c 0, devs c 1, devs c 2, devs c 3] : Fin 4 → Dev nD) k = prt k c := by decide +kernel
theorem dev_p0 : ∀ (c : Dev nD) (k : Fin 2), (![devs c 4, devs c 5] : Fin 2 → Dev nD) k = prt 0 c := by decide +kernel
theorem dev_p1 : ∀ (c : Dev nD) (k : Fin 2), (![devs c 12, devs c 13] : Fin 2 → Dev nD) k = prt 0 c := by decide +kernel
theorem dev_p2 : ∀ (c : Dev nD) (k : Fin 2), (![devs c 20, devs c 21] : Fin 2 → Dev nD) k = prt 0 c := by decide +kernel
theorem dev_s0 : ∀ (c : Dev nD) (i : Fin 6), (![devs c 6, devs c 7, devs c 8, devs c 9, devs c 10, devs c 11] : Fin 6 → Dev nD) i
    = prt ((![1, 1, 2, 2, 3, 3] : Fin 6 → Fin 4) i) c := by decide +kernel
theorem dev_s1 : ∀ (c : Dev nD) (i : Fin 6), (![devs c 14, devs c 15, devs c 16, devs c 17, devs c 18, devs c 19] : Fin 6 → Dev nD) i
    = prt ((![1, 1, 2, 2, 3, 3] : Fin 6 → Fin 4) i) c := by decide +kernel
theorem dev_s2 : ∀ (c : Dev nD) (i : Fin 6), (![devs c 22, devs c 23, devs c 24, devs c 25, devs c 26, devs c 27] : Fin 6 → Dev nD) i
    = prt ((![1, 1, 2, 2, 3, 3] : Fin 6 → Fin 4) i) c := by decide +kernel

/-! ## Before and after -/

/-- What a device starts from, its buffers apart. -/
def start (c : Dev nD) : sProp 𝕄 :=
  iprop(recs m ρ ∗ (cred (tallyAt (barCell c) () 4) ∗ atPos ER (barCell c) 0 ∅ 0)
    ∗ (bigSep Finset.univ fun k : Fin 4 => dutyTok ER (barCell (prt k c)) 0 k)
    ∗ (bigSep Finset.univ fun l : Fin 3 => unfetched m l c) ∗ allS fun s h => unsent s h c)

/-- What it ends with. -/
def ended (c : Dev nD) : sProp 𝕄 :=
  iprop(semVal (barCell c) 0
    ∗ (bigSep Finset.univ fun l : Fin 3 => iprop((semVal (winCell l c) 0 ∗ semVal (woutCell l c) 0) ∗ (arrHeld m c (winA l) ∗ arrHeld m c (woutA l))))
    ∗ allS fun s h => iprop(semVal (sendCell s h c) 0 ∗ semVal (recvCell s h c) 0))

theorem weighed_eq (l : Fin 3) (c : Dev nD) : weighed m l c
    ⊢ iprop(((semVal (winCell l c) 0 ∗ semVal (woutCell l c) 0) ∗ (arrHeld m c (winA l) ∗ arrHeld m c (woutA l))) ∗ wslots l c) := by
  unfold weighed wslots
  iintro ⟨⟨Z1, W1, A1⟩, ⟨Z2, W2, A2⟩⟩
  isplitl [Z1 Z2 A1 A2]
  · isplitl [Z1 Z2]
    · isplitl [Z1]; · iexact Z1
      iexact Z2
    isplitl [A1]; · iexact A1
    iexact A2
  isplitl [W1]; · iexact W1
  iexact W2

theorem done_eq (s : Fin 12) (h : Fin 2) (c : Dev nD) : done s h c
    ⊢ (iprop((semVal (sendCell s h c) 0 ∗ semVal (recvCell s h c) 0) ∗ some c commM (commR s h)) : sProp 𝕄) := by
  unfold done
  iintro ⟨H1, H2, H3⟩
  isplitl [H1 H2]
  · isplitl [H1]; · iexact H1
    iexact H2
  iexact H3

theorem dones_eq (c : Dev nD) : iprop(dones 0 c ∗ dones 1 c ∗ dones 2 c)
    ⊢ (iprop((allS fun s h => iprop(semVal (sendCell s h c) 0 ∗ semVal (recvCell s h c) 0)) ∗ comms c) : sProp 𝕄) := by
  have e : (iprop(dones 0 c ∗ dones 1 c ∗ dones 2 c) : sProp 𝕄) = allS fun s h => done s h c := by
    rw [allS_layers, fin3_eq]
    rfl
  rw [e]
  unfold comms
  rw [← allS_sep]
  unfold allS
  exact bigSep_mono fun p _ => done_eq p.1 p.2 c

theorem collect (c : Dev nD) :
    iprop(semVal (barCell c) 0 ∗ (weighed m 0 c ∗ weighed m 1 c ∗ weighed m 2 c) ∗ (dones 0 c ∗ dones 1 c ∗ dones 2 c)
        ∗ (free 0 1 0 c ∗ free 0 1 1 c)
        ∗ (∃ f : Buf (Elt F) (xbM.view.loc (c : Thread nD τ)), xbM.view.loc (c : Thread nD τ) ↦{fullShare} f))
      ⊢ iprop(ended m c ∗ scratch c) := by
  iintro ⟨HB, ⟨W0, W1, W2⟩, HD, HZ, HX⟩
  ihave HD := (dones_eq (F := F) c) $$ HD
  icases HD with ⟨HD, HC⟩
  ihave W0 := (weighed_eq m 0 c) $$ W0
  ihave W1 := (weighed_eq m 1 c) $$ W1
  ihave W2 := (weighed_eq m 2 c) $$ W2
  icases W0 with ⟨E0, S0⟩
  icases W1 with ⟨E1, S1⟩
  icases W2 with ⟨E2, S2⟩
  isplitl [HB E0 E1 E2 HD]
  · unfold ended
    rw [fin3_eq]
    isplitl [HB]; · iexact HB
    isplitl [E0 E1 E2]
    · isplitl [E0]; · iexact E0
      isplitl [E1]; · iexact E1
      iexact E2
    iexact HD
  iapply (scratch_join m c)
  rw [fin3_eq]
  isplitl [S0 S1 S2]
  · isplitl [S0]; · iexact S0
    isplitl [S1]; · iexact S1
    iexact S2
  isplitl [HX]; · iexact HX
  isplitl [HZ]; · iexact HZ
  iexact HC

/-! ## The body -/

omit [FloatOps F] in
theorem hz : (![0, 0] : Fin 2 → Nat) = fun _ => 0 := funext fun a => by fin_cases a <;> rfl

theorem readFull_rule (c : Dev nD) (M : Memref sig .tc .vmem S64x1024 .f32) (f : Buf (Elt F) (M.view.loc (c : Thread nD τ)))
    (k : Vec F S64x1024 .f32 → P F) :
    iprop((M.view.loc (c : Thread nD τ) ↦{fullShare} f) ∗ ((M.view.loc (c : Thread nD τ) ↦{fullShare} f)
        -∗ wpc c (k (M.view.readAt (Elt F) fullR.toLoadRect f)) Q)) ⊢ wpc c (readFull M k) Q := by
  unfold readFull
  iintro ⟨H, Hk⟩
  iapply (wp_load 𝒱₀ (c : Thread nD τ) none Set.univ (m := M) (Finset.subset_univ _)) $$ H
  iexact Hk

/-- The halves of the activations join to the next layer's. -/
theorem xb_join (c : Dev nD) (p : Fin 2 → FVec F S64x512 .f32) :
    iprop(held c xbM (halfR 0) (p 0) ∗ held c xbM (halfR 1) (p 1))
      ⊢ (xbM.view.loc (c : Thread nD τ) ↦{fullShare} (join p : Buf (Elt F) (xbM.view.loc (c : Thread nD τ))) : sProp 𝕄) := by
  iintro H
  ihave H' := (held_join c xbM p (fun i j h => by rw [cells_xb, cells_xb]; exact apart_half i j h) (full_xb c) (join p)) $$ H
  icases H' with ⟨%f, %hf, H'⟩
  have e : f = join p := hf
  subst e
  iexact H'
theorem o_join (c : Dev nD) (p : Fin 2 → FVec F S64x512 .f32) :
    iprop(held c oM (halfR 0) (p 0) ∗ held c oM (halfR 1) (p 1))
      ⊢ (oM.view.loc (c : Thread nD τ) ↦{fullShare} (join p : Buf (Elt F) (oM.view.loc (c : Thread nD τ))) : sProp 𝕄) := by
  iintro H
  ihave H' := (held_join c oM p (fun i j h => by rw [cells_o, cells_o]; exact apart_half i j h) (full_o c) (join p)) $$ H
  icases H' with ⟨%f, %hf, H'⟩
  have e : f = join p := hf
  subst e
  iexact H'

theorem ret_rule (c : Dev nD) : Q ⟨⟩ ⊢ wpc c (.ret ⟨⟩ : P F) Q := by
  unfold wpc
  rw [wp_ret]
  iintro H
  imodintro
  iexact H

/-- A layer that needs no barrier: its landing slots are held already. -/
theorem nobar_rule (c : Dev nD) (l : Fin 3) (j : ℕ) (k : P F) :
    iprop(recs m ρ ∗ ow c (Og c j) ∗ landings l c ∗ ((ow c (Og c j) ∗ landings l c ∗ emp) -∗ wpc c k Q)) ⊢ wpc c ((fun k : P F => k) k) Q := by
  iintro ⟨-, HO, HL, Hk⟩
  iapply Hk
  isplitl [HO]; · iexact HO
  isplitl [HL]; · iexact HL
  iempintro

theorem body_rule (c : Dev nD) :
    iprop(start m ρ c ∗ scratch c ∗ ow c (O₀ c) ∗ (xM.view.loc (c : Thread nD τ) ↦{fullShare} xstg m ρ c)
        ∗ (∃ f : Buf (Elt F) (oM.view.loc (c : Thread nD τ)), oM.view.loc (c : Thread nD τ) ↦{fullShare} f)
        ∗ ((ended m c ∗ scratch c ∗ ow c 0 ∗ (xM.view.loc (c : Thread nD τ) ↦{fullShare} xstg m ρ c)
            ∗ (oM.view.loc (c : Thread nD τ) ↦{fullShare} outAt m ρ c)) -∗ Q ⟨⟩))
      ⊢ wpc c (body (F := F)) Q := by
  rw [body_layers]
  unfold bodyL
  unfold wpc
  rw [wp_deviceId]
  unfold start
  rw [allS_layers, fin3_eq, fin3_eq]
  iintro ⟨⟨#HR, HB, HT, ⟨F0, F1, F2⟩, ⟨U0, U1, U2⟩⟩, HS, HO, HX, HM, Hk⟩
  ihave HS := (scratch_split (F := F) c) $$ HS
  icases HS with ⟨HW, HXB, HZ, HC⟩
  ihave HW := (Entails.of_eq (fin3_eq _)) $$ HW
  icases HW with ⟨W0, W1, W2⟩
  iapply (fetch_rule m ρ c 0)
  isplitr; · iexact HR
  isplitl [F0]; · iexact F0
  isplitl [W0]; · iexact W0
  iintro W0
  iapply (fetch_rule m ρ c 1)
  isplitr; · iexact HR
  isplitl [F1]; · iexact F1
  isplitl [W1]; · iexact W1
  iintro W1
  iapply (fetch_rule m ρ c 2)
  isplitr; · iexact HR
  isplitl [F2]; · iexact F2
  isplitl [W2]; · iexact W2
  iintro W2
  iapply (signals_rule m ρ c _ (dev_sig c))
  isplitr; · iexact HR
  isplitl [HO]; · iexact HO
  isplitl [HT]; · iexact HT
  isplitl [HC]; · iexact HC
  iintro HO
  iapply (readFull_rule c xM (xstg m ρ c))
  isplitl [HX]; · iexact HX
  iintro HX
  rw [show xM.view.readAt (Elt F) fullR.toLoadRect (xstg m ρ c) = xstg m ρ c from Memref.readAt_unit_zero (Elt F) cc0_stg0_0 hz _ _]
  rw [show shapeCast S64x1024 (xstg m ρ c) shapeCasts_S64x1024_S64x1024 = xin m ρ (0 : Fin 3).val c from rfl]
  iapply (layer_rule m ρ c 0 _ (dev_p0 c) _ (dev_s0 c) barrier
    iprop(cred (tallyAt (barCell c) () 4) ∗ atPos ER (barCell c) 0 ∅ 0) iprop(semVal (barCell c) 0 ∗ landings 1 c ∗ landings 2 c)
    (fun k => barrier_rule m ρ c k) xbM again)
  isplitr; · iexact HR
  isplitl [HO]; · iexact HO
  isplitl [HB]; · iexact HB
  isplitl [W0]; · iexact W0
  isplitl [U0]; · unfold unsents; iexact U0
  isplitl [HZ]; · iexact HZ
  isplitl [HXB]; · iexact HXB
  iintro ⟨HO, ⟨HB, L1, L2⟩, W0, D0, HZ, HXB⟩
  ihave HXB := (xb_join c (fun h => again (sumL m ρ 0 h c))) $$ HXB
  iapply (readFull_rule c xbM (join fun h => again (sumL m ρ 0 h c)))
  isplitl [HXB]; · iexact HXB
  iintro HXB
  rw [show xbM.view.readAt (Elt F) fullR.toLoadRect (join fun h => again (sumL m ρ 0 h c)) = xin m ρ (1 : Fin 3).val c from
    (Memref.readAt_unit_zero (Elt F) cc0_scratch2 hz _ _).trans rfl]
  ihave HXB := (xb_split (F := F) c) $$ [HXB]
  · iexists _; iexact HXB
  rw [show 2 * (st 0 3).val + 2 = 2 * (st 1 0).val from rfl]
  iapply (layer_rule m ρ c 1 _ (dev_p1 c) _ (dev_s1 c) (fun k => k) (landings 1 c) iprop(emp) (fun k => nobar_rule m ρ c 1 _ k) xbM again)
  isplitr; · iexact HR
  isplitl [HO]; · iexact HO
  isplitl [L1]; · iexact L1
  isplitl [W1]; · iexact W1
  isplitl [U1]; · unfold unsents; iexact U1
  isplitl [HZ]; · iexact HZ
  isplitl [HXB]; · iexact HXB
  iintro ⟨HO, -, W1, D1, HZ, HXB⟩
  ihave HXB := (xb_join c (fun h => again (sumL m ρ 1 h c))) $$ HXB
  iapply (readFull_rule c xbM (join fun h => again (sumL m ρ 1 h c)))
  isplitl [HXB]; · iexact HXB
  iintro HXB
  rw [show xbM.view.readAt (Elt F) fullR.toLoadRect (join fun h => again (sumL m ρ 1 h c)) = xin m ρ (2 : Fin 3).val c from
    (Memref.readAt_unit_zero (Elt F) cc0_scratch2 hz _ _).trans rfl]
  rw [show 2 * (st 1 3).val + 2 = 2 * (st 2 0).val from rfl]
  ihave HM := (o_split (F := F) c) $$ HM
  iapply (layer_rule m ρ c 2 _ (dev_p2 c) _ (dev_s2 c) (fun k => k) (landings 2 c) iprop(emp) (fun k => nobar_rule m ρ c 2 _ k) oM (fun p => p))
  isplitr; · iexact HR
  isplitl [HO]; · iexact HO
  isplitl [L2]; · iexact L2
  isplitl [W2]; · iexact W2
  isplitl [U2]; · unfold unsents; iexact U2
  isplitl [HZ]; · iexact HZ
  isplitl [HM]; · iexact HM
  iintro ⟨HO, -, W2, D2, HZ, HM⟩
  ihave HM := (o_join c (fun h => sumL m ρ 2 h c)) $$ HM
  ihave HE := (collect m c) $$ [HB W0 W1 W2 D0 D1 D2 HZ HXB]
  · isplitl [HB]; · iexact HB
    isplitl [W0 W1 W2]
    · isplitl [W0]; · iexact W0
      isplitl [W1]; · iexact W1
      iexact W2
    isplitl [D0 D1 D2]
    · isplitl [D0]; · iexact D0
      isplitl [D1]; · iexact D1
      iexact D2
    isplitl [HZ]; · iexact HZ
    iexists _; iexact HXB
  icases HE with ⟨HE, HS⟩
  iapply (ret_rule c)
  iapply Hk
  isplitl [HE]; · iexact HE
  isplitl [HS]; · iexact HS
  isplitl [HO]
  · rw [show Og c (2 * (st 2 3).val + 2) = 0 from rfl]
    iexact HO
  isplitl [HX]; · iexact HX
  unfold outAt
  iexact HM

end Cert.KernelIdeal.Run

end
-- ==== Proof.Ghost.lean ====
/-
What the launch gives the devices: the tokens of the semaphores, minted at their own device, dealt to the devices that
pay them, and the credit that the debts of all devices are worth to each semaphore's device.
-/
module

public import proofs.«01_k».proof.Proof.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The cells and their tokens -/

/-- The role of each semaphore of the index type. -/
def croleOf : Unit ⊕ Ox → Role
  | .inl _ => .bar
  | .inr (.win l) => .win l
  | .inr (.wout l) => .wout l
  | .inr (.send s h) => .send s h
  | .inr (.recv s h) => .recv s h

theorem role_csem (i : Unit ⊕ Ox) : role (csem i) = croleOf i := by
  rcases i with _ | l | l | ⟨s, h⟩ | ⟨s, h⟩
  · exact role_bar
  · exact role_win l
  · exact role_wout l
  · exact role_send s h
  · exact role_recv s h

theorem croleOf_injective : Function.Injective croleOf := by
  rintro (_ | l | l | ⟨s, h⟩ | ⟨s, h⟩) (_ | l' | l' | ⟨s', h'⟩ | ⟨s', h'⟩) e <;> cases e <;> rfl

theorem csem_injective : Function.Injective csem := fun i j h =>
  croleOf_injective (by rw [← role_csem, ← role_csem, h])

theorem osem_injective : Function.Injective osem := fun i j h => Sum.inr_injective (csem_injective h)

theorem kcell_injective : Function.Injective (kcell : Dev nD × (Unit ⊕ Ox) → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

def kcells : Finset (GSem nD τ sig) := Finset.univ.map ⟨kcell, kcell_injective⟩

/-- A device's tokens as minted: its barrier's four, and one of each of its other semaphores. -/
def tokOf (ci : Dev nD × (Fin 4 ⊕ Ox)) : GSem nD τ sig × ℕ × Fin 4 := match ci.2 with
  | .inl k => (kcell (ci.1, .inl ()), 0, k)
  | .inr i => (kcell (ci.1, .inr i), 0, 0)

theorem tokOf_injective : Function.Injective tokOf := by
  rintro ⟨c, k | i⟩ ⟨c', k' | i'⟩ h
  · have h1 := kcell_injective (congrArg Prod.fst h)
    have h2 : k = k' := congrArg (fun x : GSem nD τ sig × ℕ × Fin 4 => x.2.2) h
    rw [show c = c' from congrArg Prod.fst h1, h2]
  · have h1 := kcell_injective (congrArg Prod.fst h)
    exact absurd (congrArg Prod.snd h1) (by simp)
  · have h1 := kcell_injective (congrArg Prod.fst h)
    exact absurd (congrArg Prod.snd h1) (by simp)
  · have h1 := kcell_injective (congrArg Prod.fst h)
    have h2 := congrArg Prod.snd h1
    rw [show c = c' from congrArg Prod.fst h1, show i = i' from Sum.inr_injective h2]

def ktoks : Finset (GSem nD τ sig × ℕ × Fin 4) := Finset.univ.map ⟨tokOf, tokOf_injective⟩

def u₀ : UU :=
  (initOf (Pipeline.cells cfgs cellOf_inj) (Pipeline.launchToks cfgs cellOf_inj), initOf kcells ktoks)

/-- The tokens of device `c`'s own semaphores. -/
def toks (c : Dev nD) : sProp 𝕄 :=
  iprop((bigSep Finset.univ fun k : Fin 4 => dutyTok ER (barCell c) 0 k)
    ∗ bigSep Finset.univ fun i : Ox => dutyTok ER (kcell (c, .inr i)) 0 (0 : Fin 4))

/-- What the launch gives device `c` to begin with. -/
def G (c : Dev nD) : sProp 𝕄 :=
  iprop((bigSep Finset.univ fun k : Unit ⊕ Ox => roundState ER (sched m ρ) (kcell (c, k)) 0)
    ∗ (bigSep Finset.univ fun k : Unit ⊕ Ox => iprop(atPos ER (kcell (c, k)) 0 ∅ 0 ∗ reached ER (kcell (c, k)) 0)) ∗ toks c)

theorem fund : BI.own (ER (initOf kcells ktoks)) ⊢ (|==> bigSep Finset.univ (G m ρ) : sProp 𝕄) := by
  have hX (Φ : GSem nD τ sig → sProp 𝕄) : bigSep kcells Φ
      = bigSep Finset.univ fun c : Dev nD => bigSep Finset.univ fun k : Unit ⊕ Ox => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => by unfold toks; rw [bigSep_univ_sum]; rfl
  iintro HX
  imod (Rounds.fund ER (sched m ρ) kcells ktoks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the one that no kernel scope holds. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Unit ⊕ Ox => semVal (kcell (c, k)) 0 : sProp 𝕄) := by
  rw [unscopedSems0_eq, show (bigSep Finset.univ fun k : Unit ⊕ Ox => (semVal (kcell (c, k)) 0 : sProp 𝕄))
    = iprop(semVal (barCell c) 0 ∗ bigSep Finset.univ fun i : Ox => semVal (kcell (c, .inr i)) 0) from by
      rw [bigSep_univ_sum, Finset.univ_unique, bigSep_singleton]; rfl]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : Unit ⊕ Ox => semVal (kcell (c, k)) 0)
        ∗ bigSep Finset.univ fun k : Unit ⊕ Ox => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to their payers -/

/-- A family over the own semaphores, role by role. -/
theorem ox_eq (Φ : Ox → sProp 𝕄) : bigSep Finset.univ Φ
    = iprop(((bigSep Finset.univ fun l : Fin 3 => Φ (.win l)) ∗ bigSep Finset.univ fun l : Fin 3 => Φ (.wout l))
        ∗ ((allS fun s h => Φ (.send s h)) ∗ allS fun s h => Φ (.recv s h))) := by
  rw [bigSep_univ_equiv oxEquiv, bigSep_univ_sum, bigSep_univ_sum, bigSep_univ_sum]
  rfl

/-- A partner of each device, as a permutation of the devices. -/
def prtEquiv (k : Fin 4) : Dev nD ≃ Dev nD := ⟨prt k, prt k, prt_prt k, prt_prt k⟩

/-- What every device holds for each of several partners may be held by those partners instead. -/
theorem around {I : Type} [Fintype I] (e : I → Fin 4) (Φ : I → Dev nD → sProp 𝕄) :
    (bigSep Finset.univ fun c : Dev nD => bigSep Finset.univ fun i : I => Φ i c)
      = bigSep Finset.univ fun c : Dev nD => bigSep Finset.univ fun i : I => Φ i (prt (e i) c) := by
  rw [bigSep_univ_comm, bigSep_univ_comm (fun (c : Dev nD) (i : I) => Φ i (prt (e i) c))]
  exact bigSep_congr fun i _ => bigSep_univ_equiv (prtEquiv (e i)) (Φ i)

/-- The tokens device `c` pays with. -/
def payToks (c : Dev nD) : sProp 𝕄 :=
  iprop((bigSep Finset.univ fun k : Fin 4 => dutyTok ER (barCell (prt k c)) 0 k)
    ∗ (((bigSep Finset.univ fun l : Fin 3 => dutyTok ER (winCell l c) 0 (0 : Fin 4)) ∗ bigSep Finset.univ fun l : Fin 3 => dutyTok ER (woutCell l c) 0 (0 : Fin 4))
      ∗ ((allS fun s h => dutyTok ER (sendCell s h c) 0 (0 : Fin 4)) ∗ allS fun s h => dutyTok ER (recvCell s h (prt (kOf s) c)) 0 (0 : Fin 4))))

theorem toks_around : (bigSep Finset.univ fun c : Dev nD => (toks c : sProp 𝕄)) = bigSep Finset.univ fun c : Dev nD => payToks c := by
  unfold toks payToks
  simp only [ox_eq, bigSep_sep']
  rw [around (fun k => k) (fun k c => (dutyTok ER (barCell c) 0 k : sProp 𝕄))]
  congr 3
  exact around (fun p : Fin 12 × Fin 2 => kOf p.1) (fun p c => (dutyTok ER (recvCell p.1 p.2 c) 0 (0 : Fin 4) : sProp 𝕄))

/-- The positions of device `c`'s semaphores. -/
def positions (c : Dev nD) : sProp 𝕄 :=
  bigSep Finset.univ fun k : Unit ⊕ Ox => atPos ER (kcell (c, k)) 0 ∅ 0

/-- What the devices share of the records. -/
def records : sProp 𝕄 := bigSep Finset.univ fun ci : Dev nD × (Unit ⊕ Ox) => rec1 m ρ (kcell ci)

instance records_persistent : BI.Persistent (records m ρ) := by unfold records; infer_instance

/-- What device `c` starts with of the semaphores. -/
def G' (c : Dev nD) : sProp 𝕄 := iprop(records m ρ ∗ positions c ∗ payToks c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  have hR : (bigSep Finset.univ fun ck : Dev nD × (Unit ⊕ Ox) => iprop(∃ κ : ℕ, cellInv ER (sched m ρ) κ (kcell ck)) : sProp 𝕄)
      ∗ (bigSep Finset.univ fun ck : Dev nD × (Unit ⊕ Ox) => (reached ER (kcell ck) 0 : sProp 𝕄)) ⊢ records m ρ :=
    Entails.of_eq (by unfold records rec1; rw [bigSep_sep'])
  rw [bigSep_sep', bigSep_sep', ← bigSep_univ_prod (fun ck : Dev nD × (Unit ⊕ Ox) => iprop(∃ κ : ℕ, cellInv ER (sched m ρ) κ (kcell ck))),
    bigSep_congr (s := Finset.univ) (fun (c : Dev nD) _ => bigSep_sep' Finset.univ (fun k : Unit ⊕ Ox => (atPos ER (kcell (c, k)) 0 ∅ 0 : sProp 𝕄)) (fun k => reached ER (kcell (c, k)) 0)),
    bigSep_sep', ← bigSep_univ_prod (fun ck : Dev nD × (Unit ⊕ Ox) => (reached ER (kcell ck) 0 : sProp 𝕄)), toks_around]
  iintro ⟨HI, ⟨Hat, HR⟩, Htok⟩
  iapply (with_persistent (R := records m ρ) (Φ := fun c => iprop(positions c ∗ payToks c)) (Ψ := G' m ρ) fun c _ => Entails.of_eq (by unfold G'; rfl))
  isplitl [HI HR]
  · iapply hR
    isplitl [HI] <;> iassumption
  · iapply (Entails.of_eq (bigSep_sep' Finset.univ (fun c : Dev nD => (positions c : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

theorem recv_eq_iff {s s' : Fin 12} {h h' : Fin 2} {a b : Dev nD} :
    recvCell s h a = recvCell s' h' b ↔ (s = s' ∧ h = h') ∧ a = b := by
  constructor
  · intro e
    have h1 := kcell_injective (a₁ := (a, .inr (.recv s h))) (a₂ := (b, .inr (.recv s' h'))) e
    cases h1
    exact ⟨⟨rfl, rfl⟩, rfl⟩
  · rintro ⟨⟨rfl, rfl⟩, rfl⟩; rfl

theorem recv_ne_bar (s : Fin 12) (h : Fin 2) (a b : Dev nD) : recvCell s h a ≠ barCell b := fun e => by
  have h1 := kcell_injective (a₁ := (a, .inr (.recv s h))) (a₂ := (b, .inl ())) e
  cases h1

theorem bar_eq_iff {a b : Dev nD} : barCell a = barCell b ↔ a = b :=
  ⟨fun h => congrArg (fun g : GSem nD τ sig => g.1.1) h, fun h => h ▸ rfl⟩

theorem eq_prt (k : Fin 4) (c d : Dev nD) : c = prt k d ↔ d = prt k c :=
  ⟨fun h => by rw [h, prt_prt], fun h => by rw [h, prt_prt]⟩

/-- A device owes the barriers nothing for its messages. -/
theorem owe_bar (d c : Dev nD) : ∀ n, owe d n (barCell c) () = 0
  | 0 => rfl
  | n + 1 => by
    rw [owe, Pi.add_apply, Finsupp.add_apply, owe_bar d c n, msgCell, tallyAt_ne_cell (recv_ne_bar _ _ _ _).symm]
    rfl

/-- What a device owes a receive semaphore when its last `n` messages are not sent. -/
theorem owe_recv (d c : Dev nD) (s : Fin 12) (h : Fin 2) : ∀ n, n ≤ 24 →
    owe d n (recvCell s h c) () = if 24 ≤ n + (2 * s.val + h.val) ∧ d = prt (kOf s) c then NC else 0
  | 0 => fun _ => by
    rw [if_neg (fun e => by have := e.1; omega)]; rfl
  | n + 1 => fun hn => by
    rw [owe, Pi.add_apply, Finsupp.add_apply, owe_recv d c s h n (by omega), tallyAt_apply]
    have key : (recvCell s h c = msgCell d (23 - n) ∧ () = ()) ↔ (2 * s.val + h.val = 23 - n ∧ d = prt (kOf s) c) := by
      unfold msgCell
      rw [recv_eq_iff]
      constructor
      · rintro ⟨⟨⟨e1, e2⟩, e3⟩, -⟩
        have := step_half ⟨23 - n, by omega⟩
        simp only at this
        rw [← e1, ← e2] at this
        rw [← e1] at e3
        exact ⟨this, (eq_prt _ _ _).mp e3⟩
      · rintro ⟨e1, e2⟩
        rw [← e1, stepOf_eq, halfOf_eq]
        exact ⟨⟨⟨rfl, rfl⟩, (eq_prt _ _ _).mpr e2⟩, rfl⟩
    by_cases hd : d = prt (kOf s) c
    · by_cases hj : 2 * s.val + h.val = 23 - n
      · rw [if_neg (fun e => by have := e.1; omega), if_pos (key.mpr ⟨hj, hd⟩), if_pos ⟨by omega, hd⟩, Nat.zero_add]
      · rw [if_neg (fun e => hj (key.mp e).1), Nat.add_zero]
        have : (24 ≤ n + (2 * s.val + h.val)) ↔ 24 ≤ n + 1 + (2 * s.val + h.val) := by omega
        simp only [this]
    · rw [if_neg (fun e => hd e.2), if_neg (fun e => hd (key.mp e).2), if_neg (fun e => hd e.2)]

theorem Ob_recv (d c : Dev nD) (s : Fin 12) (h : Fin 2) : ∀ n, Ob d n (recvCell s h c) () = Og d 0 (recvCell s h c) ()
  | 0 => rfl
  | n + 1 => by
    rw [Ob, Pi.add_apply, Finsupp.add_apply, Ob_recv d c s h n, tallyAt_ne_cell (recv_ne_bar _ _ _ _)]
    rfl

theorem owed_recv (d c : Dev nD) (s : Fin 12) (h : Fin 2) : O₀ d (recvCell s h c) () = if d = prt (kOf s) c then NC else 0 := by
  unfold O₀
  rw [Ob_recv]
  unfold Og
  rw [owe_recv d c s h 24 le_rfl]
  simp

theorem owed_bar (d c : Dev nD) : ∀ n, Ob d n (barCell c) () = ∑ i ∈ Finset.range n, if d = prt (Fin.ofNat 4 (3 - i)) c then 1 else 0
  | 0 => owe_bar d c _
  | n + 1 => by
    rw [Ob, Pi.add_apply, Finsupp.add_apply, owed_bar d c n, Finset.sum_range_succ, tallyAt_apply]
    congr 1
    by_cases h : d = prt (Fin.ofNat 4 (3 - n)) c
    · rw [if_pos h, if_pos ⟨bar_eq_iff.mpr ((eq_prt _ _ _).mpr h), rfl⟩]
    · rw [if_neg h, if_neg (fun e => h ((eq_prt _ _ _).mp (bar_eq_iff.mp e.1)))]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from owed_bar d c 4, Finset.sum_comm]
  simp

theorem launch_recv (s : Fin 12) (h : Fin 2) (c : Dev nD) :
    tallyOn (recvCell s h c) (launchCredit (Pipeline.owing O₀) 0 (recvCell s h c)) = (tallyAt (recvCell s h c) () NC : CellTallies nD τ sig Unit) := by
  unfold tallyAt; refine congrArg _ (Finsupp.ext fun u => ?_); cases u
  rw [Pipeline.launchCredit_owing, Finsupp.single_eq_same, Finset.sum_congr rfl fun d _ => owed_recv d c s h,
    Finset.sum_ite_eq' Finset.univ (prt (kOf s) c) fun _ => NC, if_pos (Finset.mem_univ _)]

/-- The semaphores that the devices pay on one another: the barrier's and the receives'. -/
def paid : Unit ⊕ (Fin 12 × Fin 2) → SemLoc sig
  | .inl _ => .reg barS
  | .inr p => .dma (recvSem p.1 p.2)

theorem paid_injective : Function.Injective paid := by
  rintro (_ | p) (_ | p') h
  · rfl
  · have := csem_injective (a₁ := .inl ()) (a₂ := .inr (.recv p'.1 p'.2)) h
    cases this
  · have := csem_injective (a₂ := .inl ()) (a₁ := .inr (.recv p.1 p.2)) h
    cases this
  · have := csem_injective (a₁ := .inr (.recv p.1 p.2)) (a₂ := .inr (.recv p'.1 p'.2)) h
    obtain ⟨a, b⟩ := p
    obtain ⟨a', b'⟩ := p'
    cases this
    rfl

theorem creds (c : Dev nD) :
    (Pipeline.launchCred O₀ c : sProp 𝕄)
      ⊢ iprop(cred (tallyAt (barCell c) () 4) ∗ allS fun s h => cred (tallyAt (recvCell s h c) () NC)) := by
  have e : (bigSep (Finset.univ.map ⟨paid, paid_injective⟩) fun sm : SemLoc sig =>
        (cred (tallyOn ((c : Thread nD τ), sm) (launchCredit (Pipeline.owing O₀) 0 ((c : Thread nD τ), sm))) : sProp 𝕄))
      = iprop(cred (tallyAt (barCell c) () 4) ∗ allS fun s h => cred (tallyAt (recvCell s h c) () NC)) := by
    rw [bigSep_map, bigSep_univ_sum, Finset.univ_unique, bigSep_singleton]
    unfold allS
    simp only [← launch_recv, ← launch_bar]
    rfl
  rw [← e]
  exact bigSep_subset (Finset.subset_univ _)

end Cert.KernelIdeal.Run

end
-- ==== Proof.Launch.lean ====
/-
The run: from any memory, at zero counters, every device's result array ends at `outAt`, its argument arrays end at what
they held, and every counter at zero.
-/
module

public import proofs.«01_k».proof.Proof.Ghost
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## What the pipeline is told of the kernel -/

def Φ₀ (c : Dev nD) : sProp 𝕄 := iprop(start m ρ c ∗ scratch c)
def Φ₁ (c : Dev nD) : sProp 𝕄 := iprop(ended m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (xstg m ρ c) ∗ stg c cc0_stg1_0 (outAt m ρ c))

theorem before_x (c : Dev nD) (d) : (dats m ρ 0 c).before (0 : Fin 2) t0_0 d = xstg m ρ c := by
  unfold Dat.before; rw [if_pos (fetch0_0 t0_0)]; rfl

theorem sound_body (c : Dev nD) : bodyPre m ρ c ⊢ wpc c (body (F := F)) fun _ => bodyPost m ρ c := by
  unfold bodyPre Φ₀ Dat.owesAt Pipeline.owesWithin
  rw [show (dats m ρ 0 c).owed t0_0.castSucc = O₀ c from rfl]
  iintro ⟨⟨Hs, Hscr⟩, ⟨%W, %hW, HO⟩, ⟨%d0, %f0, %h0, Hx⟩, ⟨%d1, %f1, %h1, Ho⟩⟩
  rw [before_x] at h0
  subst h0
  iapply (body_rule m ρ c)
  isplitl [Hs]; · iexact Hs
  isplitl [Hscr]; · iexact Hscr
  isplitl [HO]
  · unfold ow; iexists W; iexact HO
  isplitl [Hx]; · iexact Hx
  isplitl [Ho]
  · iexists f1; iexact Ho
  iintro ⟨He, Hscr, HO, Hx, Ho⟩
  unfold bodyPost Φ₁ Dat.owesAt Pipeline.owesWithin ow
  rw [show (dats m ρ 0 c).owed t0_0.succ = 0 from rfl]
  icases HO with ⟨%W', HO⟩
  isplitl [He Hscr]
  · isplitl [He] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (bodyAt0 (F := F) t0_0) fun _ => bodyPost m ρ c
  rw [body_eq]
  exact sound_body m ρ c

theorem share_eq (c : Dev nD) (w : Fin cfg0.W) : (dats m ρ 0 c).share w = fullShare := by unfold Dat.share; split <;> rfl

/-- The kernel's own semaphores are all of a kernel's scope but the pipeline's. -/
theorem ownSemFacts : Pipeline.OwnSemFacts cfg0.spec osem := by decide +kernel

/-! ## Entering and leaving -/

/-- A device's arrays of weights, at what they hold at launch. -/
def arrs (c : Dev nD) : sProp 𝕄 :=
  bigSep Finset.univ fun l : Fin 3 => iprop(arrHeld m c (winA l) ∗ arrHeld m c (woutA l))

theorem arrHeld_whole (c : Dev nD) {s : Shape} (M : Memref sig .tc .hbm s .f32) (hM : M.IsWhole) :
    arrHeld m c M = (M.view.loc (c : Thread nD τ) ↦{fullShare} m (M.view.loc (c : Thread nD τ))) := by
  unfold arrHeld; rw [hM.set_eq_univ]

theorem arrs_eq (c : Dev nD) :
    (Pipeline.unscopedRestP Pipeline.Prefetch.none cfg0.spec c (fun b => m ((c : Thread nD τ).loc b)) : sProp 𝕄) ⊢ arrs m c := by
  rw [Pipeline.unscopedRestP_eq_of_list (c := c) (win := cfg0.spec) Pipeline.Prefetch.none (fun b => m ((c : Thread nD τ).loc b))
    [main_arg1, main_arg4, main_arg2, main_arg5, main_arg3, main_arg6] (by decide) (by decide)]
  unfold arrs
  rw [fin3_eq]
  simp only [arrHeld_whole m c _ (winA_whole _), arrHeld_whole m c _ (woutA_whole _)]
  refine (Entails.of_eq (show _ = iprop((((c : Thread nD τ).loc main_arg1) ↦{fullShare} m ((c : Thread nD τ).loc main_arg1))
    ∗ (((c : Thread nD τ).loc main_arg4) ↦{fullShare} m ((c : Thread nD τ).loc main_arg4))
    ∗ (((c : Thread nD τ).loc main_arg2) ↦{fullShare} m ((c : Thread nD τ).loc main_arg2))
    ∗ (((c : Thread nD τ).loc main_arg5) ↦{fullShare} m ((c : Thread nD τ).loc main_arg5))
    ∗ (((c : Thread nD τ).loc main_arg3) ↦{fullShare} m ((c : Thread nD τ).loc main_arg3))
    ∗ (((c : Thread nD τ).loc main_arg6) ↦{fullShare} m ((c : Thread nD τ).loc main_arg6))) from rfl)).trans ?_
  iintro ⟨H1, H4, H2, H5, H3, H6⟩
  isplitl [H1 H4]
  · isplitl [H1]; · iexact H1
    iexact H4
  isplitl [H2 H5]
  · isplitl [H2]; · iexact H2
    iexact H5
  isplitl [H3]; · iexact H3
  iexact H6

/-- What a device starts with, from what the launch deals it. -/
theorem start_made (c : Dev nD) :
    iprop(arrs m c ∗ levAts L lv ∗ (cred (tallyAt (barCell c) () 4) ∗ allS fun s h => cred (tallyAt (recvCell s h c) () NC)) ∗ G' m ρ c)
      ⊢ start m ρ c := by
  have hp : (positions c : sProp 𝕄) = iprop(atPos ER (barCell c) 0 ∅ 0
      ∗ (((bigSep Finset.univ fun l : Fin 3 => atPos ER (winCell l c) 0 ∅ 0) ∗ bigSep Finset.univ fun l : Fin 3 => atPos ER (woutCell l c) 0 ∅ 0)
        ∗ ((allS fun s h => atPos ER (sendCell s h c) 0 ∅ 0) ∗ allS fun s h => atPos ER (recvCell s h c) 0 ∅ 0))) := by
    unfold positions
    rw [bigSep_univ_sum, Finset.univ_unique, bigSep_singleton, ox_eq]
    rfl
  have hs : (allS fun s h => unsent s h c : sProp 𝕄) = iprop((allS fun s h => dutyTok ER (sendCell s h c) 0 (0 : Fin 4))
      ∗ (allS fun s h => dutyTok ER (recvCell s h (prt (kOf s) c)) 0 (0 : Fin 4)) ∗ (allS fun s h => cred (tallyAt (recvCell s h c) () NC))
      ∗ (allS fun s h => atPos ER (sendCell s h c) 0 ∅ 0) ∗ allS fun s h => atPos ER (recvCell s h c) 0 ∅ 0) := by
    unfold unsent allS
    simp only [bigSep_sep']
  unfold start recs G' payToks arrs unfetched records
  rw [hp, hs]
  simp only [bigSep_sep']
  iintro ⟨⟨A1, A2⟩, HL, ⟨CB, CR⟩, HR, ⟨PB, ⟨PW, PO⟩, PS, PR⟩, TB, ⟨TW, TO⟩, TS, TR⟩
  isplitl [HR HL]
  · isplitl [HR]; · iexact HR
    iexact HL
  isplitl [CB PB]
  · isplitl [CB]; · iexact CB
    iexact PB
  isplitl [TB]; · iexact TB
  isplitl [A1 A2 TW TO PW PO]
  · isplitl [A1 TW PW]
    · isplitl [A1]; · iexact A1
      isplitl [TW]; · iexact TW
      iexact PW
    isplitl [A2]; · iexact A2
    isplitl [TO]; · iexact TO
    iexact PO
  isplitl [TS]; · iexact TS
  isplitl [TR]; · iexact TR
  isplitl [CR]; · iexact CR
  isplitl [PS]; · iexact PS
  iexact PR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨HA, Hlev, Hcr, -, HG⟩
  ihave Hc := (creds (F := F) c) $$ Hcr
  ihave HA := (arrs_eq (F := F) m c) $$ HA
  imodintro
  isplitl
  · iapply (start_made m ρ c)
    isplitl [HA]; · iexact HA
    isplitl [Hlev]; · iexact Hlev
    isplitl [Hc]; · iexact Hc
    iexact HG
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What a device hands back at the end. -/
def back (c : Dev nD) : sProp 𝕄 := iprop(unscopedSems0 c ∗ arrs m c)

theorem phi1_exit (c : Dev nD) :
    (dats m ρ 0 c).Φ (Fin.last cfg0.N) ⊢ iprop(back m c ∗ Pipeline.ownSems0 osem c ∗ Pipeline.scopedRest cfg0.spec c) := by
  have ho : (Pipeline.ownSems0 (Ix := Unit) (Name := ℕ) (U := UU) (Lvl := ℕ) (Val := Elt F) (τ := τ) osem c : sProp 𝕄)
      = iprop(((bigSep Finset.univ fun l : Fin 3 => semVal (winCell l c) 0) ∗ bigSep Finset.univ fun l : Fin 3 => semVal (woutCell l c) 0)
        ∗ ((allS fun s h => semVal (sendCell s h c) 0) ∗ allS fun s h => semVal (recvCell s h c) 0)) := by
    unfold Pipeline.ownSems0
    rw [ox_eq]
    rfl
  rw [show (dats m ρ 0 c).Φ (Fin.last cfg0.N) = Φ₁ m c from rfl, scopedRest0_eq, ho]
  unfold back
  rw [unscopedSems0_eq]
  unfold Φ₁ ended allS arrs scratch
  simp only [bigSep_sep']
  iintro ⟨⟨HB, ⟨⟨ZW, ZO⟩, A1, A2⟩, ZS, ZR⟩, Hr⟩
  isplitl [HB A1 A2]
  · isplitl [HB]; · iexact HB
    isplitl [A1]; · iexact A1
    iexact A2
  isplitl [ZW ZO ZS ZR]
  · isplitl [ZW ZO]
    · isplitl [ZW]; · iexact ZW
      iexact ZO
    isplitl [ZS]; · iexact ZS
    iexact ZR
  iexact Hr

theorem waits (c : Dev nD) : (levAts L lv : sProp 𝕄) ⊢ Pipeline.cellsWaits cfgs (dats m ρ) () 0 c :=
  Pipeline.cellsWaits_intro cfgs (dats m ρ) () 0 c fun w s t => by
    have hl : lvR (role (.dma ((cfg0.win w).sem s))) ≤ 0 := by fin_cases w <;> fin_cases s <;> decide
    rcases t with ⟨_ | _, ht⟩
    · exact mayWait c _ 0 hl (O₀ c) fun g u h => ⟨(Ob_pos c 4 h).1, (Ob_pos c 4 h).2⟩
    · show (levAts L lv : sProp 𝕄) ⊢ MayWait (c : Thread nD τ) _ () 0
      rw [MayWait_zero]; iintro -; iempintro

/-! ## The run -/

/-- The result array's one block is the whole array: it ends at what the body left. -/
theorem out_final (c : Dev nD) : (win0_1.blk (0 : Fin 1)).view.read (Elt F) ((dats m ρ 0 c).arrAt (1 : Fin 2) cfg0.N) = outAt m ρ c := by
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- What the run ends with: the result block of every device, its arguments as they were, all counters zero. -/
def QC : PUnit × MemSt nD τ sig (Elt F) → Prop := fun r =>
  (∀ c : Dev nD, (win0_1.blk (0 : Fin 1)).view.read (Elt F) (r.2.mem ((c : Thread nD τ).loc main_v1)) = outAt m ρ c
    ∧ r.2.mem ((c : Thread nD τ).loc main_arg0) = m ((c : Thread nD τ).loc main_arg0)
    ∧ ∀ l : Fin 3, r.2.mem ((winA l).view.loc (c : Thread nD τ)) = m ((winA l).view.loc (c : Thread nD τ))
      ∧ r.2.mem ((woutA l).view.loc (c : Thread nD τ)) = m ((woutA l).view.loc (c : Thread nD τ)))
    ∧ r.2.sem = fun _ => 0

/-- What is read off a device at the end. -/
def QY (c : Dev nD) (s : MemSt nD τ sig (Elt F)) : Prop :=
  (∀ sm : SemLoc sig, sm.isScoped .tc = false → s.sem ((c.tc : Thread nD τ), sm) = 0)
    ∧ ∀ l : Fin 3, s.mem ((winA l).view.loc (c : Thread nD τ)) = m ((winA l).view.loc (c : Thread nD τ))
      ∧ s.mem ((woutA l).view.loc (c : Thread nD τ)) = m ((woutA l).view.loc (c : Thread nD τ))

theorem back_read (c : Dev nD) (s' : Phys nD τ sig (Elt F)) :
    iprop(back m c ∗ emp ∗ SI s') ⊢ |={Set.univ}=> iprop(⌜QY m c s'.mem⌝ ∗ (SI s' : sProp 𝕄)) := by
  unfold back arrs
  simp only [bigSep_sep', arrHeld_whole m c _ (winA_whole _), arrHeld_whole m c _ (woutA_whole _)]
  iintro ⟨⟨Hu, A1, A2⟩, -, HSI⟩
  ihave H := (pointsTo_read_all Finset.univ (fun l : Fin 3 => (winA l).view.loc (c : Thread nD τ)) (fun l => m ((winA l).view.loc (c : Thread nD τ))) s') $$ [A1 HSI]
  · isplitl [A1]; · iexact A1
    iexact HSI
  icases H with ⟨%h1, HSI⟩
  ihave H := (pointsTo_read_all Finset.univ (fun l : Fin 3 => (woutA l).view.loc (c : Thread nD τ)) (fun l => m ((woutA l).view.loc (c : Thread nD τ))) s') $$ [A2 HSI]
  · isplitl [A2]; · iexact A2
    iexact HSI
  icases H with ⟨%h2, HSI⟩
  imod (Pipeline.unscopedSems0_read (X := unscopedSems0 c) (c := c) fupd_intro s') $$ [Hu HSI] with ⟨%h3, HSI⟩
  · isplitl [Hu] <;> iassumption
  imodintro
  isplitr
  · ipureintro
    exact ⟨h3, fun l => ⟨h1 l (Finset.mem_univ _), h2 l (Finset.mem_univ _)⟩⟩
  iexact HSI

set_option maxRecDepth 100000 in
/-- From any memory, at zero counters, every weakly fair execution ends, in a state as `QC` says. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := back m) (Z := fun _ => iprop(emp))
    (hX := start_intro m ρ) (hin := phi0_intro m ρ) (hout := phi1_exit m ρ)
    (QY := QY m)
    (hY := back_read m)
    (hQ := fun _ h hs => ⟨fun c => ⟨(congrArg _ ((h c).1 (1 : Fin 2))).trans (out_final m ρ c),
      ((h c).1 (0 : Fin 2)).trans ((dats m ρ 0 c).arrAt_in (0 : Fin 2) rfl _), (h c).2.2.2⟩, sem_eq_zero hs fun c => (h c).2.2.1⟩)

end Cert.KernelIdeal.Run

end
-- ==== Proof.Same.lean ====
/-
The kernel and the ideal kernel are one text: their functions, their call tables and their programs are the same.
-/
module

public import proofs.«01_k».proof.Proof.Launch
public import proofs.«01_k».proof.Defs
public import proofs.«01_k».proof.Proof.Gen.Kernel

@[expose] public section

noncomputable section

namespace Cert.Proof

open Idealize.ShloMosaic Idealize.SL.Sem

variable {F : FTy → Type} [FloatOps F]

/-! ## One text -/

set_option maxRecDepth 100000 in
/-- The kernel bodies agree. -/
theorem defs₀_eq : (Cert.Kernel.defs₀ (F := F)) = Cert.KernelIdeal.defs₀ (F := F) := by
  unfold Cert.Kernel.defs₀ Cert.KernelIdeal.defs₀
  refine congrArg Defs.onTc ?_
  funext l a
  match l, a with
  | ⟨0, _⟩, (t, s) => rfl

/-- So do the call tables. -/
theorem defs_eq : (Cert.Kernel.defs (F := F)) = Cert.KernelIdeal.defs (F := F) := by
  unfold Cert.Kernel.defs Cert.KernelIdeal.defs
  exact congrArg _ defs₀_eq

/-- And the programs that call them. -/
theorem main_eq : (Cert.Kernel.main (F := F)) = Cert.KernelIdeal.main (F := F) := rfl

end Cert.Proof

end
-- ==== Proof.Doubling.lean ====
/-
The exchange sums the devices' products. After `k` steps a device holds the sum over a set of `2 ^ k` devices; the
partner's set is another one; after four steps the set is the whole mesh.
-/
module

public import proofs.«01_k».proof.Proof.Common
public import Idealize.ShloMosaic.PureOps.Ideal.Laws
public import Idealize.ShloMosaic.Lib.Pipeline.Value

@[expose] public section

noncomputable section

namespace Cert.KernelIdeal.Run

open Cert.KernelIdeal Cert.KernelIdeal.Gen
open Idealize.ShloMosaic Idealize.ShloMosaic.TcCoe

/-- The devices whose products a device's accumulator holds after `k` steps of a layer. -/
def held16 : ℕ → Dev nD → Finset (Dev nD)
  | 0, c => {c}
  | k + 1, c => held16 k c ∪ held16 k (prt (Fin.ofNat 4 k) c)

/-- The partner's devices are other devices. -/
theorem held16_disjoint : ∀ (k : Fin 4) (c : Dev nD), Disjoint (held16 k.val c) (held16 k.val (prt (Fin.ofNat 4 k.val) c)) := by
  decide +kernel

/-- After four steps they are all the devices. -/
theorem held16_all : ∀ c : Dev nD, held16 4 c = Finset.univ := by decide +kernel

/-- One step adds the partner's accumulator to the device's own, at each entry. -/
theorem plus_apply (p q : FVec Ideal S64x512 .f32) (i : S64x512.Idx) :
    (plus (asSlot p) (asSend q) i : EReal) = (p i : EReal) + (q i : EReal) := by
  unfold plus asSlot asSend
  rw [shapeCast_shapeCast, shapeCast_shapeCast]
  rfl

variable (m : (ℓ : Loc nD τ sig) → Buf (Elt Ideal) ℓ)

/-- The accumulator after `k` steps, at an entry, is the sum of the products of the devices held. -/
theorem accF_sum (x : Dev nD → Vec Ideal S64x1024 .f32) (l : Fin 3) (h : Fin 2) (i : S64x512.Idx) :
    ∀ k, k ≤ 4 → ∀ c : Dev nD, (accF m x l k h c i : EReal) = ∑ d ∈ held16 k c, (accF m x l 0 h d i : EReal)
  | 0, _, c => (Finset.sum_singleton (fun d => (accF m x l 0 h d i : EReal)) c).symm
  | k + 1, hk, c => by
      have e : accF m x l (k + 1) h c = plus (asSlot (accF m x l k h c)) (asSend (accF m x l k h (prt (Fin.ofNat 4 k) c))) := rfl
      rw [e, plus_apply, accF_sum x l h i k (by omega) c, accF_sum x l h i k (by omega) (prt (Fin.ofNat 4 k) c)]
      exact (Finset.sum_union (held16_disjoint ⟨k, by omega⟩ c)).symm

/-- After a layer's four steps every device holds the sum of all the devices' products. -/
theorem accF_four (x : Dev nD → Vec Ideal S64x1024 .f32) (l : Fin 3) (h : Fin 2) (c : Dev nD) (i : S64x512.Idx) :
    (accF m x l 4 h c i : EReal) = ∑ d : Dev nD, (accF m x l 0 h d i : EReal) := by
  rw [accF_sum m x l h i 4 le_rfl c, held16_all]

end Cert.KernelIdeal.Run

end
-- ==== Proof.Block.lean ====
/-
What a device computes of a layer, at an entry: its hidden units, and one half of its product with the second weights.
-/
module

public import proofs.«01_k».proof.Proof.Doubling
public import Idealize.ShloMosaic.Lib.MatmulPlain
public import Idealize.ShloMosaic.Lib.KernelVsHost

@[expose] public section

noncomputable section

namespace Cert.KernelIdeal.Run

open Cert.KernelIdeal Cert.KernelIdeal.Gen
open Idealize.ShloMosaic Idealize.ShloMosaic.TcCoe Idealize.ShloMosaic.ValueIdx

/-- A hidden unit of a layer over the weights `w`: row `r`, column `j`, below by zero. -/
def hiddenUnit {n : ℕ} (x : Vec Ideal S64x1024 .f32) (w : (⟨2, ![1024, n]⟩ : Shape).Idx → EReal) (r : Fin 64) (j : Fin n) : EReal :=
  max (∑ k : Fin 1024, (x (ix2 r k) : EReal) * w (ix2 k j)) 0

/-- The hidden units, at an entry. -/
theorem hidden_apply (x : Vec Ideal S64x1024 .f32) (w : Vec Ideal S1x1024x2048 .f32) (r : Fin 64) (j : Fin 2048) :
    (hidden x w (ix2 r j) : EReal) = hiddenUnit x (shapeCast S1024x2048 w shapeCasts_S1x1024x2048_S1024x2048) r j := by
  have e := Ideal.matmul_plain_apply (M := 64) (K := 1024) (N := 2048) (φ₁ := .f32) (φ₂ := .f32) none x
    (shapeCast S1024x2048 w shapeCasts_S1x1024x2048_S1024x2048) (constant S64x2048 .f32 0x00000000#32) r j
  have z : (constant (F := Ideal) S64x2048 .f32 0x00000000#32 (ix2 r j) : EReal) = 0 := Ideal.ofBits_zero_f32
  rw [z, zero_add] at e
  have z' : (Scalar.ofBits (F := Ideal) .f32 0x00000000#32 : EReal) = 0 := Ideal.ofBits_zero_f32
  exact congrArg₂ max e z'

/-- A column of a half, as a column of the block. -/
def colOf (h : Fin 2) (q : Fin 512) : Fin 1024 := ⟨512 * h.val + q.val, by omega⟩

/-- The second weights' half of the columns, at an entry. -/
theorem half_apply (h : Fin 2) (w : S2048x1024.Idx → EReal) (j : Fin 2048) (q : Fin 512) :
    extractStridedSlice S2048x512 ![0, 512 * h.val] w (slicesHalf h) (ix2 j q) = w (ix2 j (colOf h q)) := by
  refine congrArg w (funext fun a => Fin.ext ?_)
  match a with
  | ⟨0, _⟩ => exact Nat.zero_add _
  | ⟨1, _⟩ => rfl

/-- One half of the columns of a device's product, at an entry. -/
theorem halfProd_apply (h : Fin 2) (u : FVec Ideal S64x2048 .f32) (w : Vec Ideal S1x2048x1024 .f32) (r : Fin 64) (q : Fin 512) :
    (halfProd h u w (ix2 r q) : EReal) = ∑ j : Fin 2048, (u (ix2 r j) : EReal)
      * (shapeCast S2048x1024 w shapeCasts_S1x2048x1024_S2048x1024 (ix2 j (colOf h q)) : EReal) := by
  have e := Ideal.matmul_plain_apply (M := 64) (K := 2048) (N := 512) (φ₁ := .f32) (φ₂ := .f32) none u
    (extractStridedSlice S2048x512 ![0, 512 * h.val] (shapeCast S2048x1024 w shapeCasts_S1x2048x1024_S2048x1024) (slicesHalf h))
    (constant S64x512 .f32 0x00000000#32) r q
  have z : (constant (F := Ideal) S64x512 .f32 0x00000000#32 (ix2 r q) : EReal) = 0 := Ideal.ofBits_zero_f32
  rw [z, zero_add] at e
  exact e.trans (Finset.sum_congr rfl fun j _ => congrArg ((u (ix2 r j) : EReal) * ·) (half_apply h _ j q))

variable (m : (ℓ : Loc nD τ sig) → Buf (Elt Ideal) ℓ)

/-- The first weights of a layer, as a device's array holds them. -/
def w1 (l : Fin 3) (c : Dev nD) : S1024x2048.Idx → EReal :=
  (winA l).view.read (Elt Ideal) (m ((winA l).view.loc (c : Thread nD τ)))
/-- The second weights. -/
def w2 (l : Fin 3) (c : Dev nD) : S2048x1024.Idx → EReal :=
  (woutA l).view.read (Elt Ideal) (m ((woutA l).view.loc (c : Thread nD τ)))

/-- The fetched buffer, with its unit axis dropped, is the array. -/
theorem winV_cast (l : Fin 3) (c : Dev nD) :
    shapeCast S1024x2048 (winV m l c) shapeCasts_S1x1024x2048_S1024x2048 = w1 m l c :=
  funext fun i => congrArg (w1 m l c) (Equiv.symm_apply_apply _ i)

/-- So is the second. -/
theorem woutV_cast (l : Fin 3) (c : Dev nD) :
    shapeCast S2048x1024 (woutV m l c) shapeCasts_S1x2048x1024_S2048x1024 = w2 m l c :=
  funext fun i => congrArg (w2 m l c) (Equiv.symm_apply_apply _ i)

/-- A device's product, at an entry of a half. -/
theorem part_apply (x : Dev nD → Vec Ideal S64x1024 .f32) (l : Fin 3) (h : Fin 2) (c : Dev nD) (r : Fin 64) (q : Fin 512) :
    (accF m x l 0 h c (ix2 r q) : EReal)
      = ∑ j : Fin 2048, hiddenUnit (x c) (w1 m l c) r j * w2 m l c (ix2 j (colOf h q)) := by
  have e : accF m x l 0 h c = halfProd h (hidden (x c) (winV m l c)) (woutV m l c) := rfl
  rw [e, halfProd_apply, woutV_cast]
  refine Finset.sum_congr rfl fun j _ => ?_
  rw [hidden_apply, winV_cast]

end Cert.KernelIdeal.Run

end
-- ==== Proof.Reference.lean ====
/-
What the reference computes: one layer, at an entry, is a sum over all the hidden units.
-/
module

public import proofs.«01_k».proof.Proof.Gen.ReferenceIdeal
public import Idealize.ShloMosaic.PureOps.Ideal.Laws
public import Idealize.ShloMosaic.Lib.StackMember
public import Idealize.ShloMosaic.Lib.MatmulPlain

@[expose] public section

noncomputable section

namespace Cert.ReferenceIdeal.Value

open Cert.ReferenceIdeal Cert.ReferenceIdeal.Gen
open Idealize.ShloMosaic Idealize.ShloMosaic.TcCoe Idealize.ShloMosaic.ValueIdx Idealize.ShloMosaic.StackMember

/-- One layer of the reference. -/
def layer (x : FVec Ideal S64x1024 .f32) (w : FVec Ideal S1024x32768 .f32) (v : FVec Ideal S32768x1024 .f32) : FVec Ideal S64x1024 .f32 :=
  Host.dotGeneral dot_S64x32768_S32768x1024_S64x1024_1_0_0_1_n_n none
    (maximumf (Host.dotGeneral dot_S64x1024_S1024x32768_S64x32768_1_0_0_1_n_n none x w)
      (broadcastInDim S64x32768 ![] bcast_S_S64x32768 (constant S_ .f32 0x00000000#32))) v

/-- One layer, at an entry. -/
theorem layer_apply (x : FVec Ideal S64x1024 .f32) (w : FVec Ideal S1024x32768 .f32) (v : FVec Ideal S32768x1024 .f32)
    (r : Fin 64) (q : Fin 1024) :
    (layer x w v (ix2 r q) : EReal) = ∑ j : Fin 32768,
      max (∑ k : Fin 1024, (x (ix2 r k) : EReal) * (w (ix2 k j) : EReal)) 0 * (v (ix2 j q) : EReal) := by
  have e := dotGeneral_plain_apply (m := 64) (k := 32768) (n := 1024) (φ₁ := .f32) (φ₂ := .f32) none
    (maximumf (Host.dotGeneral dot_S64x1024_S1024x32768_S64x32768_1_0_0_1_n_n none x w)
      (broadcastInDim S64x32768 ![] bcast_S_S64x32768 (constant S_ .f32 0x00000000#32))) v r q
  refine Eq.trans e (Finset.sum_congr rfl fun j _ => congrArg (· * (v (ix2 j q) : EReal)) ?_)
  have e' := dotGeneral_plain_apply (m := 64) (k := 1024) (n := 32768) (φ₁ := .f32) (φ₂ := .f32) none x w r j
  have z : (broadcastInDim S64x32768 ![] bcast_S_S64x32768 (constant (F := Ideal) S_ .f32 0x00000000#32) (ix2 r j) : EReal) = 0 :=
    Ideal.ofBits_zero_f32
  exact congrArg₂ max e' z

end Cert.ReferenceIdeal.Value

end
-- ==== Proof.Equation.lean ====
/-
One layer of the kernel, over a mesh whose devices hold the blocks of the weights and the same activations, is one layer of
the reference: the sum over the devices of the sums over their hidden units is the sum over all the hidden units.
-/
module

public import proofs.«01_k».proof.Proof.Block
public import proofs.«01_k».proof.Proof.Reference
public import Idealize.ShloMosaic.Lib.Layout
public import Idealize.ShloMosaic.Lib.Pointwise.Sums

@[expose] public section

noncomputable section

namespace Cert.KernelIdeal.Run

open Cert.KernelIdeal Cert.KernelIdeal.Gen
open Idealize.ShloMosaic hiding ix2
open Idealize.ShloMosaic.TcCoe Idealize.ShloMosaic.ValueIdx
open Cert.ReferenceIdeal.Value (layer layer_apply)

/-- Two halves side by side, at an entry. -/
theorem join_apply (p : Fin 2 → FVec Ideal S64x512 .f32) (r : Fin 64) (q : Fin 1024) :
    (join p (ix2 r q) : EReal) = p ⟨q.val / 512, by omega⟩ (ix2 r ⟨q.val % 512, Nat.mod_lt _ (by decide)⟩) := by
  refine congrArg (p ⟨q.val / 512, by omega⟩) (funext fun a => ?_)
  match a with
  | ⟨0, _⟩ => rfl
  | ⟨1, _⟩ => rfl

/-- An entry's column is the column of its half. -/
theorem colOf_split (q : Fin 1024) : colOf ⟨q.val / 512, by omega⟩ ⟨q.val % 512, Nat.mod_lt _ (by decide)⟩ = q :=
  Fin.ext (Nat.div_add_mod q.val 512)

/-- The hidden unit `j` of device `c` among all the hidden units. -/
def unitOf (c : Fin 16) (j : Fin 2048) : Fin 32768 := ⟨c.val * 2048 + j.val, by omega⟩

variable (m : (ℓ : Loc nD τ sig) → Buf (Elt Ideal) ℓ)

/-- The first weights of a layer are the device's block of the columns of `W`. -/
def HasW (l : Fin 3) (W : Cert.ReferenceIdeal.S1024x32768.Idx → EReal) : Prop :=
  ∀ (c : Dev nD) (k : Fin 1024) (j : Fin 2048), w1 m l c (ix2 k j) = W (ix2 k (unitOf c j))
/-- The second weights are the device's block of the rows of `V`. -/
def HasV (l : Fin 3) (V : Cert.ReferenceIdeal.S32768x1024.Idx → EReal) : Prop :=
  ∀ (c : Dev nD) (j : Fin 2048) (q : Fin 1024), w2 m l c (ix2 j q) = V (ix2 (unitOf c j) q)

/-- A layer of the kernel, on any device, is the layer of the reference. -/
theorem layer_eq (x : Dev nD → Vec Ideal S64x1024 .f32) (X : Vec Ideal S64x1024 .f32) (hx : ∀ c, x c = X) (l : Fin 3)
    (W : Cert.ReferenceIdeal.S1024x32768.Idx → EReal) (V : Cert.ReferenceIdeal.S32768x1024.Idx → EReal)
    (hW : HasW m l W) (hV : HasV m l V) (c : Dev nD) :
    join (fun h => accF m x l 4 h c) = layer X W V := by
  funext i
  obtain ⟨r, q, rfl⟩ : ∃ (r : Fin 64) (q : Fin 1024), i = ix2 r q := ⟨i 0, i 1, by
    funext a
    match a with
    | ⟨0, _⟩ => rfl
    | ⟨1, _⟩ => rfl⟩
  refine (join_apply _ r q).trans (Eq.trans ?_ (layer_apply X W V r q).symm)
  rw [accF_four, Fin.sum_univ_tiles 16 2048 rfl]
  refine Finset.sum_congr rfl fun d _ => (part_apply m x l _ d r _).trans (Finset.sum_congr rfl fun j _ => ?_)
  rw [colOf_split, hV d j q]
  refine congrArg (· * V (ix2 (unitOf d j) q)) ?_
  unfold hiddenUnit
  rw [hx d]
  exact congrArg (max · 0) (Finset.sum_congr rfl fun k _ => by rw [hW d k j]; rfl)

end Cert.KernelIdeal.Run

end
-- ==== Proof.Result.lean ====
/-
The result on every device: three layers of the reference. Each layer of the kernel enters with the same activations on
every device and ends with the same sum on every device.
-/
module

public import proofs.«01_k».proof.Proof.Equation

@[expose] public section

noncomputable section

namespace Cert.KernelIdeal.Run

open Cert.KernelIdeal Cert.KernelIdeal.Gen
open Idealize.ShloMosaic hiding ix2
open Idealize.ShloMosaic.TcCoe Idealize.ShloMosaic.ValueIdx
open Idealize.ShloMosaic.Pipeline (Window)
open Cert.ReferenceIdeal.Value (layer)

/-- The tokens' one block is their whole array. -/
theorem read_tokens (f : S64x1024.Idx → EReal) : (win0_0.blk (0 : Fin 1)).view.read (Elt Ideal) f = f := by
  funext y
  refine congrArg f (funext fun a => Fin.ext ?_)
  exact Window.rect_emb_val_of_index_zero win0_0 (0 : Fin 1) a (by revert a; decide) y

/-- The result's one block is its whole array. -/
theorem read_result (f : S64x1024.Idx → EReal) : (win0_1.blk (0 : Fin 1)).view.read (Elt Ideal) f = f := by
  funext y
  refine congrArg f (funext fun a => Fin.ext ?_)
  exact Window.rect_emb_val_of_index_zero win0_1 (0 : Fin 1) a (by revert a; decide) y

variable (m : (ℓ : Loc nD τ sig) → Buf (Elt Ideal) ℓ) (ρ : Dev nD → PrngReg)

/-- The activations entering the first layer are the tokens. -/
theorem xin_zero (c : Dev nD) : xin m ρ 0 c = m ((c : Thread nD τ).loc main_arg0) := by
  refine Eq.trans (b := xstg m ρ c) ?_ (read_tokens _)
  exact shapeCast_self _ _

/-- Those entering a later layer are the sum that the layer before ends with. -/
theorem xin_succ (l : ℕ) (c : Dev nD) : xin m ρ (l + 1) c = join fun h => accF m (xin m ρ l) (Fin.ofNat 3 l) 4 h c := by
  refine congrArg join (funext fun h => ?_)
  exact shapeCast_self _ _

/-- The result, on every device, is the reference's. -/
theorem outAt_eq (X : Vec Ideal S64x1024 .f32) (W : Fin 3 → Cert.ReferenceIdeal.S1024x32768.Idx → EReal)
    (V : Fin 3 → Cert.ReferenceIdeal.S32768x1024.Idx → EReal)
    (hX : ∀ c : Dev nD, m ((c : Thread nD τ).loc main_arg0) = X) (hW : ∀ l, HasW m l (W l)) (hV : ∀ l, HasV m l (V l)) (c : Dev nD) :
    outAt m ρ c = layer (layer (layer X (W 0) (V 0)) (W 1) (V 1)) (W 2) (V 2) := by
  have h0 : ∀ c, xin m ρ 0 c = X := fun c => (xin_zero m ρ c).trans (hX c)
  have h1 : ∀ c, xin m ρ 1 c = layer X (W 0) (V 0) := fun c =>
    (xin_succ m ρ 0 c).trans (layer_eq m _ _ h0 0 _ _ (hW 0) (hV 0) c)
  have h2 : ∀ c, xin m ρ 2 c = layer (layer X (W 0) (V 0)) (W 1) (V 1) := fun c =>
    (xin_succ m ρ 1 c).trans (layer_eq m _ _ h1 1 _ _ (hW 1) (hV 1) c)
  exact layer_eq m _ _ h2 2 _ _ (hW 2) (hV 2) c

/-- A device's block of the columns, at an entry. -/
theorem block_cols (c : Fin 16) (W : Cert.ReferenceIdeal.S1024x32768.Idx → EReal)
    (h : Layout.Tiles ⟨2, ![1024, 2048]⟩ ⟨2, ![1024, 32768]⟩ 1 16) (k : Fin 1024) (j : Fin 2048) :
    Layout.block ⟨2, ![1024, 2048]⟩ ⟨2, ![1024, 32768]⟩ 1 16 c W h (ix2 k j) = W (ix2 k (unitOf c j)) := by
  refine congrArg W (funext fun a => Fin.ext ?_)
  match a with
  | ⟨0, _⟩ => rfl
  | ⟨1, _⟩ => rfl

/-- A device's block of the rows, at an entry. -/
theorem block_rows (c : Fin 16) (V : Cert.ReferenceIdeal.S32768x1024.Idx → EReal)
    (h : Layout.Tiles ⟨2, ![2048, 1024]⟩ ⟨2, ![32768, 1024]⟩ 0 16) (j : Fin 2048) (q : Fin 1024) :
    Layout.block ⟨2, ![2048, 1024]⟩ ⟨2, ![32768, 1024]⟩ 0 16 c V h (ix2 j q) = V (ix2 (unitOf c j) q) := by
  refine congrArg V (funext fun a => Fin.ext ?_)
  match a with
  | ⟨0, _⟩ => rfl
  | ⟨1, _⟩ => rfl

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Result
public import Idealize.ShloMosaic.Adequacy
public import Idealize.ShloMosaic.Init

@[expose] public section

noncomputable section

namespace Cert.Proof

open Idealize.ShloMosaic Idealize.SL.Sem Cert.Kernel

/-- What a run of the kernel says of a device's arguments. -/
theorem args_kept {F : FTy → Type} [FloatOps F] {m : (ℓ : Loc Cert.KernelIdeal.nD Cert.KernelIdeal.τ Cert.KernelIdeal.sig) → Buf (Elt F) ℓ}
    {ρ : Dev Cert.KernelIdeal.nD → PrngReg} {r : PUnit × MemSt Cert.KernelIdeal.nD Cert.KernelIdeal.τ Cert.KernelIdeal.sig (Elt F)}
    (h : Cert.KernelIdeal.Run.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) :=
  ⟨(h.1 c).2.1, ((h.1 c).2.2 0).1, ((h.1 c).2.2 1).1, ((h.1 c).2.2 2).1, ((h.1 c).2.2 0).2, ((h.1 c).2.2 1).2, ((h.1 c).2.2 2).2⟩

/-- The kernel ends, its arguments unchanged and every counter at zero, for any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono (fun _ h => ⟨args_kept h, h.2⟩) (Cert.KernelIdeal.Run.run_main m ρ)

/-- So does the kernel over float words. -/
theorem frame_kernel : Cert.quiescent_Kernel := fun m ρ _ => by
  rw [defs_eq, main_eq]
  exact frame_any (F := Bits) m ρ

/-- So does the ideal kernel. -/
theorem frame_ideal : Cert.quiescent_KernelIdeal := fun m ρ _ => frame_any (F := Ideal) m ρ

/-- And the reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The weights of every layer are the devices' blocks of the reference's. -/
theorem blocks_first {m : (ℓ : Loc Cert.KernelIdeal.nD Cert.KernelIdeal.τ Cert.KernelIdeal.sig) → Buf (Elt Ideal) ℓ}
    (W : Fin 3 → Cert.ReferenceIdeal.S1024x32768.Idx → EReal)
    (h : ∀ (l : Fin 3) (c : Dev Cert.KernelIdeal.nD),
      Cert.KernelIdeal.Run.w1 m l c = Layout.block ⟨2, ![1024, 2048]⟩ ⟨2, ![1024, 32768]⟩ 1 16 c (W l)) (l : Fin 3) :
    Cert.KernelIdeal.Run.HasW m l (W l) := fun c k j =>
  (congrFun (h l c) _).trans (Cert.KernelIdeal.Run.block_cols c (W l) _ k j)
/-- So are the second weights. -/
theorem blocks_second {m : (ℓ : Loc Cert.KernelIdeal.nD Cert.KernelIdeal.τ Cert.KernelIdeal.sig) → Buf (Elt Ideal) ℓ}
    (V : Fin 3 → Cert.ReferenceIdeal.S32768x1024.Idx → EReal)
    (h : ∀ (l : Fin 3) (c : Dev Cert.KernelIdeal.nD),
      Cert.KernelIdeal.Run.w2 m l c = Layout.block ⟨2, ![2048, 1024]⟩ ⟨2, ![32768, 1024]⟩ 0 16 c (V l)) (l : Fin 3) :
    Cert.KernelIdeal.Run.HasV m l (V l) := fun c j q =>
  (congrFun (h l c) _).trans (Cert.KernelIdeal.Run.block_rows c (V l) _ j q)

/-- Every device's result is the reference's result. -/
theorem value : Cert.algebraic_KernelIdeal_ReferenceIdeal := by
  intro m g m' g' _ h
  let A (b : Ref Cert.ReferenceIdeal.sig .tc) := m' (((0 : Dev Cert.ReferenceIdeal.nD).tc : Thread Cert.ReferenceIdeal.nD Cert.ReferenceIdeal.τ).loc b)
  let W : Fin 3 → Cert.ReferenceIdeal.S1024x32768.Idx → EReal :=
    ![A Cert.ReferenceIdeal.main_arg1, A Cert.ReferenceIdeal.main_arg2, A Cert.ReferenceIdeal.main_arg3]
  let V : Fin 3 → Cert.ReferenceIdeal.S32768x1024.Idx → EReal :=
    ![A Cert.ReferenceIdeal.main_arg4, A Cert.ReferenceIdeal.main_arg5, A Cert.ReferenceIdeal.main_arg6]
  have hW := blocks_first (m := m) W fun l c => match l with
    | 0 => (h c).2.1
    | 1 => (h c).2.2.1
    | 2 => (h c).2.2.2.1
  have hV := blocks_second (m := m) V fun l c => match l with
    | 0 => (h c).2.2.2.2.1
    | 1 => (h c).2.2.2.2.2.1
    | 2 => (h c).2.2.2.2.2.2
  refine ⟨Cert.ReferenceIdeal.Value.layer (Cert.ReferenceIdeal.Value.layer
      (Cert.ReferenceIdeal.Value.layer (A Cert.ReferenceIdeal.main_arg0) (W 0) (V 0)) (W 1) (V 1)) (W 2) (V 2), ?_, ?_⟩
  · refine (θ_run Cert.KernelIdeal.defs _ _).mono (fun r hr c => ⟨?_, args_kept hr c⟩) (Cert.KernelIdeal.Run.run_main (F := Ideal) m g)
    have e := (hr.1 c).1
    rw [Cert.KernelIdeal.Run.outAt_eq m g (A Cert.ReferenceIdeal.main_arg0) W V (fun c => (h c).1) hW hV c] at e
    exact (Cert.KernelIdeal.Run.read_result _).symm.trans e
  · exact (θ_run Cert.ReferenceIdeal.defs _ _).mono (fun r hr => hr 0) (Cert.ReferenceIdeal.Value.run (F := Ideal) m' g')

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
